-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x6144x3584 : Shape := ⟨3, ![1, 6144, 3584]⟩
abbrev S1x6144x28 : Shape := ⟨3, ![1, 6144, 28]⟩
abbrev S3584x18944 : Shape := ⟨2, ![3584, 18944]⟩
abbrev S28x148 : Shape := ⟨2, ![28, 148]⟩
abbrev S6144x3584 : Shape := ⟨2, ![6144, 3584]⟩
abbrev S6144x28 : Shape := ⟨2, ![6144, 28]⟩
abbrev S6144x9472 : Shape := ⟨2, ![6144, 9472]⟩
abbrev S6144x74 : Shape := ⟨2, ![6144, 74]⟩
abbrev S1024x3584 : Shape := ⟨2, ![1024, 3584]⟩
abbrev S1024x28 : Shape := ⟨2, ![1024, 28]⟩
abbrev S3584x512 : Shape := ⟨2, ![3584, 512]⟩
abbrev S1024x256 : Shape := ⟨2, ![1024, 256]⟩
abbrev S1024x74 : Shape := ⟨2, ![1024, 74]⟩
abbrev S1024x128 : Shape := ⟨2, ![1024, 128]⟩
abbrev S1024x1 : Shape := ⟨2, ![1024, 1]⟩
abbrev S1x1 : Shape := ⟨2, ![1, 1]⟩
abbrev S128x128 : Shape := ⟨2, ![128, 128]⟩
abbrev S1024x512 : Shape := ⟨2, ![1024, 512]⟩
abbrev S1024 : Shape := ⟨1, ![1024]⟩

abbrev nBuf : Space → Nat
  | .hbm => 8
  | .vmem => 12
  | .smem => 1
  | _ => 0

abbrev bufTy : (tb : Table) → Fin (tcTables nBuf tb) → BufTy
  | .hbm, ⟨0, _⟩ => ⟨S1x6144x3584, .fp8e4m3⟩
  | .hbm, ⟨1, _⟩ => ⟨S1x6144x28, .f32⟩
  | .hbm, ⟨2, _⟩ => ⟨S3584x18944, .fp8e4m3⟩
  | .hbm, ⟨3, _⟩ => ⟨S28x148, .f32⟩
  | .hbm, ⟨4, _⟩ => ⟨S6144x3584, .fp8e4m3⟩
  | .hbm, ⟨5, _⟩ => ⟨S6144x28, .f32⟩
  | .hbm, ⟨6, _⟩ => ⟨S6144x9472, .fp8e4m3⟩
  | .hbm, ⟨7, _⟩ => ⟨S6144x74, .f32⟩
  | .local _ .vmem, ⟨0, _⟩ => ⟨S1024x3584, .fp8e4m3⟩
  | .local _ .vmem, ⟨1, _⟩ => ⟨S1024x3584, .fp8e4m3⟩
  | .local _ .vmem, ⟨2, _⟩ => ⟨S1024x28, .f32⟩
  | .local _ .vmem, ⟨3, _⟩ => ⟨S1024x28, .f32⟩
  | .local _ .vmem, ⟨4, _⟩ => ⟨S3584x512, .fp8e4m3⟩
  | .local _ .vmem, ⟨5, _⟩ => ⟨S3584x512, .fp8e4m3⟩
  | .local _ .vmem, ⟨6, _⟩ => ⟨S1024x256, .fp8e4m3⟩
  | .local _ .vmem, ⟨7, _⟩ => ⟨S1024x256, .fp8e4m3⟩
  | .local _ .vmem, ⟨8, _⟩ => ⟨S1024x74, .f32⟩
  | .local _ .vmem, ⟨9, _⟩ => ⟨S1024x74, .f32⟩
  | .local _ .vmem, ⟨10, _⟩ => ⟨S1024x3584, .bf16⟩
  | .local _ .vmem, ⟨11, _⟩ => ⟨S3584x512, .bf16⟩
  | .local _ .smem, ⟨0, _⟩ => ⟨S28x148, .f32⟩
  | _, _ => ⟨S1x6144x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![6, 37], ![false, false]⟩

def k0_off1 (i : grid0.Coords) (c0_i32_1 : BitVec 32) : Fin 2 → Nat :=
  let c0 : Index := 0#32
  let arg1 : BitVec 32 := BitVec.ofNat 32 (i 1).val
  let c4_i32 : BitVec 32 := 4#32
  let v3 : BitVec 32 := Scalar.muli arg1 c4_i32
  let v4 : BitVec 32 := Scalar.addi v3 c0_i32_1
  let v5 : Index := Scalar.indexCast v4
  ![0, v5.toNat]
def k0_off2 (i : grid0.Coords) (c0_i32_22 : BitVec 32) : Fin 2 → Nat :=
  let c1 : Index := 1#32
  let arg1 : BitVec 32 := BitVec.ofNat 32 (i 1).val
  let c4_i32_21 : BitVec 32 := 4#32
  let v51 : BitVec 32 := Scalar.muli arg1 c4_i32_21
  let v52 : BitVec 32 := Scalar.addi v51 c0_i32_22
  let v53 : Index := Scalar.indexCast v52
  ![1, v53.toNat]
def k0_off3 (i : grid0.Coords) (c0_i32_49 : BitVec 32) : Fin 2 → Nat :=
  let c2 : Index := 2#32
  let arg1 : BitVec 32 := BitVec.ofNat 32 (i 1).val
  let c4_i32_48 : BitVec 32 := 4#32
  let v99 : BitVec 32 := Scalar.muli arg1 c4_i32_48
  let v100 : BitVec 32 := Scalar.addi v99 c0_i32_49
  let v101 : Index := Scalar.indexCast v100
  ![2, v101.toNat]
def k0_off4 (i : grid0.Coords) (c0_i32_76 : BitVec 32) : Fin 2 → Nat :=
  let c3 : Index := 3#32
  let arg1 : BitVec 32 := BitVec.ofNat 32 (i 1).val
  let c4_i32_75 : BitVec 32 := 4#32
  let v147 : BitVec 32 := Scalar.muli arg1 c4_i32_75
  let v148 : BitVec 32 := Scalar.addi v147 c0_i32_76
  let v149 : Index := Scalar.indexCast v148
  ![3, v149.toNat]
def k0_off5 (i : grid0.Coords) (c0_i32_103 : BitVec 32) : Fin 2 → Nat :=
  let c4 : Index := 4#32
  let arg1 : BitVec 32 := BitVec.ofNat 32 (i 1).val
  let c4_i32_102 : BitVec 32 := 4#32
  let v195 : BitVec 32 := Scalar.muli arg1 c4_i32_102
  let v196 : BitVec 32 := Scalar.addi v195 c0_i32_103
  let v197 : Index := Scalar.indexCast v196
  ![4, v197.toNat]
def k0_off6 (i : grid0.Coords) (c0_i32_129 : BitVec 32) : Fin 2 → Nat :=
  let c5 : Index := 5#32
  let arg1 : BitVec 32 := BitVec.ofNat 32 (i 1).val
  let c4_i32_128 : BitVec 32 := 4#32
  let v243 : BitVec 32 := Scalar.muli arg1 c4_i32_128
  let v244 : BitVec 32 := Scalar.addi v243 c0_i32_129
  let v245 : Index := Scalar.indexCast v244
  ![5, v245.toNat]
def k0_off7 (i : grid0.Coords) (c0_i32_155 : BitVec 32) : Fin 2 → Nat :=
  let c6 : Index := 6#32
  let arg1 : BitVec 32 := BitVec.ofNat 32 (i 1).val
  let c4_i32_154 : BitVec 32 := 4#32
  let v291 : BitVec 32 := Scalar.muli arg1 c4_i32_154
  let v292 : BitVec 32 := Scalar.addi v291 c0_i32_155
  let v293 : Index := Scalar.indexCast v292
  ![6, v293.toNat]
def k0_off8 (i : grid0.Coords) (c0_i32_181 : BitVec 32) : Fin 2 → Nat :=
  let c7 : Index := 7#32
  let arg1 : BitVec 32 := BitVec.ofNat 32 (i 1).val
  let c4_i32_180 : BitVec 32 := 4#32
  let v339 : BitVec 32 := Scalar.muli arg1 c4_i32_180
  let v340 : BitVec 32 := Scalar.addi v339 c0_i32_181
  let v341 : Index := Scalar.indexCast v340
  ![7, v341.toNat]
def k0_off9 (i : grid0.Coords) (c0_i32_207 : BitVec 32) : Fin 2 → Nat :=
  let c8 : Index := 8#32
  let arg1 : BitVec 32 := BitVec.ofNat 32 (i 1).val
  let c4_i32_206 : BitVec 32 := 4#32
  let v387 : BitVec 32 := Scalar.muli arg1 c4_i32_206
  let v388 : BitVec 32 := Scalar.addi v387 c0_i32_207
  let v389 : Index := Scalar.indexCast v388
  ![8, v389.toNat]
def k0_off10 (i : grid0.Coords) (c0_i32_233 : BitVec 32) : Fin 2 → Nat :=
  let c9 : Index := 9#32
  let arg1 : BitVec 32 := BitVec.ofNat 32 (i 1).val
  let c4_i32_232 : BitVec 32 := 4#32
  let v435 : BitVec 32 := Scalar.muli arg1 c4_i32_232
  let v436 : BitVec 32 := Scalar.addi v435 c0_i32_233
  let v437 : Index := Scalar.indexCast v436
  ![9, v437.toNat]
def k0_off11 (i : grid0.Coords) (c0_i32_259 : BitVec 32) : Fin 2 → Nat :=
  let c10 : Index := 10#32
  let arg1 : BitVec 32 := BitVec.ofNat 32 (i 1).val
  let c4_i32_258 : BitVec 32 := 4#32
  let v483 : BitVec 32 := Scalar.muli arg1 c4_i32_258
  let v484 : BitVec 32 := Scalar.addi v483 c0_i32_259
  let v485 : Index := Scalar.indexCast v484
  ![10, v485.toNat]
def k0_off12 (i : grid0.Coords) (c0_i32_285 : BitVec 32) : Fin 2 → Nat :=
  let c11 : Index := 11#32
  let arg1 : BitVec 32 := BitVec.ofNat 32 (i 1).val
  let c4_i32_284 : BitVec 32 := 4#32
  let v531 : BitVec 32 := Scalar.muli arg1 c4_i32_284
  let v532 : BitVec 32 := Scalar.addi v531 c0_i32_285
  let v533 : Index := Scalar.indexCast v532
  ![11, v533.toNat]
def k0_off13 (i : grid0.Coords) (c0_i32_311 : BitVec 32) : Fin 2 → Nat :=
  let c12 : Index := 12#32
  let arg1 : BitVec 32 := BitVec.ofNat 32 (i 1).val
  let c4_i32_310 : BitVec 32 := 4#32
  let v579 : BitVec 32 := Scalar.muli arg1 c4_i32_310
  let v580 : BitVec 32 := Scalar.addi v579 c0_i32_311
  let v581 : Index := Scalar.indexCast v580
  ![12, v581.toNat]
def k0_off14 (i : grid0.Coords) (c0_i32_337 : BitVec 32) : Fin 2 → Nat :=
  let c13 : Index := 13#32
  let arg1 : BitVec 32 := BitVec.ofNat 32 (i 1).val
  let c4_i32_336 : BitVec 32 := 4#32
  let v627 : BitVec 32 := Scalar.muli arg1 c4_i32_336
  let v628 : BitVec 32 := Scalar.addi v627 c0_i32_337
  let v629 : Index := Scalar.indexCast v628
  ![13, v629.toNat]
def k0_off15 (i : grid0.Coords) (c0_i32_363 : BitVec 32) : Fin 2 → Nat :=
  let c14 : Index := 14#32
  let arg1 : BitVec 32 := BitVec.ofNat 32 (i 1).val
  let c4_i32_362 : BitVec 32 := 4#32
  let v675 : BitVec 32 := Scalar.muli arg1 c4_i32_362
  let v676 : BitVec 32 := Scalar.addi v675 c0_i32_363
  let v677 : Index := Scalar.indexCast v676
  ![14, v677.toNat]
def k0_off16 (i : grid0.Coords) (c0_i32_389 : BitVec 32) : Fin 2 → Nat :=
  let c15 : Index := 15#32
  let arg1 : BitVec 32 := BitVec.ofNat 32 (i 1).val
  let c4_i32_388 : BitVec 32 := 4#32
  let v723 : BitVec 32 := Scalar.muli arg1 c4_i32_388
  let v724 : BitVec 32 := Scalar.addi v723 c0_i32_389
  let v725 : Index := Scalar.indexCast v724
  ![15, v725.toNat]
def k0_off17 (i : grid0.Coords) (c0_i32_415 : BitVec 32) : Fin 2 → Nat :=
  let c16 : Index := 16#32
  let arg1 : BitVec 32 := BitVec.ofNat 32 (i 1).val
  let c4_i32_414 : BitVec 32 := 4#32
  let v771 : BitVec 32 := Scalar.muli arg1 c4_i32_414
  let v772 : BitVec 32 := Scalar.addi v771 c0_i32_415
  let v773 : Index := Scalar.indexCast v772
  ![16, v773.toNat]
def k0_off18 (i : grid0.Coords) (c0_i32_441 : BitVec 32) : Fin 2 → Nat :=
  let c17 : Index := 17#32
  let arg1 : BitVec 32 := BitVec.ofNat 32 (i 1).val
  let c4_i32_440 : BitVec 32 := 4#32
  let v819 : BitVec 32 := Scalar.muli arg1 c4_i32_440
  let v820 : BitVec 32 := Scalar.addi v819 c0_i32_441
  let v821 : Index := Scalar.indexCast v820
  ![17, v821.toNat]
def k0_off19 (i : grid0.Coords) (c0_i32_467 : BitVec 32) : Fin 2 → Nat :=
  let c18 : Index := 18#32
  let arg1 : BitVec 32 := BitVec.ofNat 32 (i 1).val
  let c4_i32_466 : BitVec 32 := 4#32
  let v867 : BitVec 32 := Scalar.muli arg1 c4_i32_466
  let v868 : BitVec 32 := Scalar.addi v867 c0_i32_467
  let v869 : Index := Scalar.indexCast v868
  ![18, v869.toNat]
def k0_off20 (i : grid0.Coords) (c0_i32_493 : BitVec 32) : Fin 2 → Nat :=
  let c19 : Index := 19#32
  let arg1 : BitVec 32 := BitVec.ofNat 32 (i 1).val
  let c4_i32_492 : BitVec 32 := 4#32
  let v915 : BitVec 32 := Scalar.muli arg1 c4_i32_492
  let v916 : BitVec 32 := Scalar.addi v915 c0_i32_493
  let v917 : Index := Scalar.indexCast v916
  ![19, v917.toNat]
def k0_off21 (i : grid0.Coords) (c0_i32_519 : BitVec 32) : Fin 2 → Nat :=
  let c20 : Index := 20#32
  let arg1 : BitVec 32 := BitVec.ofNat 32 (i 1).val
  let c4_i32_518 : BitVec 32 := 4#32
  let v963 : BitVec 32 := Scalar.muli arg1 c4_i32_518
  let v964 : BitVec 32 := Scalar.addi v963 c0_i32_519
  let v965 : Index := Scalar.indexCast v964
  ![20, v965.toNat]
def k0_off22 (i : grid0.Coords) (c0_i32_545 : BitVec 32) : Fin 2 → Nat :=
  let c21 : Index := 21#32
  let arg1 : BitVec 32 := BitVec.ofNat 32 (i 1).val
  let c4_i32_544 : BitVec 32 := 4#32
  let v1011 : BitVec 32 := Scalar.muli arg1 c4_i32_544
  let v1012 : BitVec 32 := Scalar.addi v1011 c0_i32_545
  let v1013 : Index := Scalar.indexCast v1012
  ![21, v1013.toNat]
def k0_off23 (i : grid0.Coords) (c0_i32_571 : BitVec 32) : Fin 2 → Nat :=
  let c22 : Index := 22#32
  let arg1 : BitVec 32 := BitVec.ofNat 32 (i 1).val
  let c4_i32_570 : BitVec 32 := 4#32
  let v1059 : BitVec 32 := Scalar.muli arg1 c4_i32_570
  let v1060 : BitVec 32 := Scalar.addi v1059 c0_i32_571
  let v1061 : Index := Scalar.indexCast v1060
  ![22, v1061.toNat]
def k0_off24 (i : grid0.Coords) (c0_i32_597 : BitVec 32) : Fin 2 → Nat :=
  let c23 : Index := 23#32
  let arg1 : BitVec 32 := BitVec.ofNat 32 (i 1).val
  let c4_i32_596 : BitVec 32 := 4#32
  let v1107 : BitVec 32 := Scalar.muli arg1 c4_i32_596
  let v1108 : BitVec 32 := Scalar.addi v1107 c0_i32_597
  let v1109 : Index := Scalar.indexCast v1108
  ![23, v1109.toNat]
def k0_off25 (i : grid0.Coords) (c0_i32_623 : BitVec 32) : Fin 2 → Nat :=
  let c24 : Index := 24#32
  let arg1 : BitVec 32 := BitVec.ofNat 32 (i 1).val
  let c4_i32_622 : BitVec 32 := 4#32
  let v1155 : BitVec 32 := Scalar.muli arg1 c4_i32_622
  let v1156 : BitVec 32 := Scalar.addi v1155 c0_i32_623
  let v1157 : Index := Scalar.indexCast v1156
  ![24, v1157.toNat]
def k0_off26 (i : grid0.Coords) (c0_i32_649 : BitVec 32) : Fin 2 → Nat :=
  let c25 : Index := 25#32
  let arg1 : BitVec 32 := BitVec.ofNat 32 (i 1).val
  let c4_i32_648 : BitVec 32 := 4#32
  let v1203 : BitVec 32 := Scalar.muli arg1 c4_i32_648
  let v1204 : BitVec 32 := Scalar.addi v1203 c0_i32_649
  let v1205 : Index := Scalar.indexCast v1204
  ![25, v1205.toNat]
def k0_off27 (i : grid0.Coords) (c0_i32_675 : BitVec 32) : Fin 2 → Nat :=
  let c26 : Index := 26#32
  let arg1 : BitVec 32 := BitVec.ofNat 32 (i 1).val
  let c4_i32_674 : BitVec 32 := 4#32
  let v1251 : BitVec 32 := Scalar.muli arg1 c4_i32_674
  let v1252 : BitVec 32 := Scalar.addi v1251 c0_i32_675
  let v1253 : Index := Scalar.indexCast v1252
  ![26, v1253.toNat]
def k0_off28 (i : grid0.Coords) (c0_i32_701 : BitVec 32) : Fin 2 → Nat :=
  let c27 : Index := 27#32
  let arg1 : BitVec 32 := BitVec.ofNat 32 (i 1).val
  let c4_i32_700 : BitVec 32 := 4#32
  let v1299 : BitVec 32 := Scalar.muli arg1 c4_i32_700
  let v1300 : BitVec 32 := Scalar.addi v1299 c0_i32_701
  let v1301 : Index := Scalar.indexCast v1300
  ![27, v1301.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S28x148 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x3584 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x28 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3584x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x74 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S1x6144x3584 : Shape := ⟨3, ![1, 6144, 3584]⟩
abbrev S1x6144x28 : Shape := ⟨3, ![1, 6144, 28]⟩
abbrev S3584x18944 : Shape := ⟨2, ![3584, 18944]⟩
abbrev S28x148 : Shape := ⟨2, ![28, 148]⟩
abbrev S6144x3584 : Shape := ⟨2, ![6144, 3584]⟩
abbrev S6144x28 : Shape := ⟨2, ![6144, 28]⟩
abbrev S6144x9472 : Shape := ⟨2, ![6144, 9472]⟩
abbrev S6144x74 : Shape := ⟨2, ![6144, 74]⟩
abbrev S6144x28x128 : Shape := ⟨3, ![6144, 28, 128]⟩
abbrev S6144x28x1 : Shape := ⟨3, ![6144, 28, 1]⟩
abbrev S28x128x148x128 : Shape := ⟨4, ![28, 128, 148, 128]⟩
abbrev S28x1x148x1 : Shape := ⟨4, ![28, 1, 148, 1]⟩
abbrev S6144x18944 : Shape := ⟨2, ![6144, 18944]⟩
abbrev S6144x74x2x128 : Shape := ⟨4, ![6144, 74, 2, 128]⟩
abbrev S6144x74x1x128 : Shape := ⟨4, ![6144, 74, 1, 128]⟩
abbrev S6144x74x128 : Shape := ⟨3, ![6144, 74, 128]⟩
abbrev S6144x74x1 : Shape := ⟨3, ![6144, 74, 1]⟩

abbrev nBuf : Space → Nat
  | .hbm => 8
  | .vmem => 6
  | .smem => 0
  | _ => 0

abbrev bufTy : (tb : Table) → Fin (tcTables nBuf tb) → BufTy
  | .hbm, ⟨0, _⟩ => ⟨S1x6144x3584, .fp8e4m3⟩
  | .hbm, ⟨1, _⟩ => ⟨S1x6144x28, .f32⟩
  | .hbm, ⟨2, _⟩ => ⟨S3584x18944, .fp8e4m3⟩
  | .hbm, ⟨3, _⟩ => ⟨S28x148, .f32⟩
  | .hbm, ⟨4, _⟩ => ⟨S6144x3584, .fp8e4m3⟩
  | .hbm, ⟨5, _⟩ => ⟨S6144x28, .f32⟩
  | .hbm, ⟨6, _⟩ => ⟨S6144x9472, .fp8e4m3⟩
  | .hbm, ⟨7, _⟩ => ⟨S6144x74, .f32⟩
  | .local _ .vmem, ⟨0, _⟩ => ⟨S6144x3584, .fp8e4m3⟩
  | .local _ .vmem, ⟨1, _⟩ => ⟨S6144x28, .f32⟩
  | .local _ .vmem, ⟨2, _⟩ => ⟨S3584x18944, .fp8e4m3⟩
  | .local _ .vmem, ⟨3, _⟩ => ⟨S28x148, .f32⟩
  | .local _ .vmem, ⟨4, _⟩ => ⟨S6144x9472, .fp8e4m3⟩
  | .local _ .vmem, ⟨5, _⟩ => ⟨S6144x74, .f32⟩
  | _, _ => ⟨S1x6144x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x18944 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S28x148 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x9472 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x74 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Body.lean ====
/- What the two runs of the kernel's body are stated over: the branch condition over the grid points, the staging and scratch memrefs. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 37) — by arithmetic of the point. -/
theorem hcond0_0 : ∀ t : Fin cfg0.N, cond0_0 (grid0.coords t) ↔ t.val % 37 = 0 :=
  (fun t => by
    have ht : t.val < 222 := Nat.lt_of_lt_of_eq t.isLt N_0
    have e0 : (grid0.coords t 0).val = t.val / 37 % 6 := Pipeline.Grid.coords_val t 0 (by decide) rfl
    have e1 : (grid0.coords t 1).val = t.val / 1 % 37 := Pipeline.Grid.coords_val t 1 (by decide) rfl
    simp only [cond0_0, e0, e1]
    word_cmp
   : ∀ t : Fin grid0.N, cond0_0 (grid0.coords t) ↔ t.val % 37 = 0)

/-! ## The kernel body on any staging memrefs: a subtype the run finds -/

/-- One staging buffer of output window 4, through which its contents are stated (`View.read_writes_of_cover`: the
    choice does not matter). -/
abbrev VO0_4 : View sig .tc .vmem S1024x256 .fp8e4m3 := (Memref.whole cc0_stg4_0 : Memref sig .tc .vmem S1024x256 .fp8e4m3).view
/-- One staging buffer of output window 5, through which its contents are stated (`View.read_writes_of_cover`: the
    choice does not matter). -/
abbrev VO0_5 : View sig .tc .vmem S1024x74 .f32 := (Memref.whole cc0_stg5_0 : Memref sig .tc .vmem S1024x74 .f32).view
/-- Each window's current staging memref at point `t`, spelled as the pipeline passes it (`bodyAt0`), and its wholeness. -/
abbrev ms0_0 (t : Fin cfg0.N) : Memref sig .tc .smem S28x148 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3584 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x28 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3584x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x74 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x3584 .bf16 := Memref.whole cc0_scratch0
abbrev scM0_1 : Memref sig .tc .vmem S3584x512 .bf16 := Memref.whole cc0_scratch1
/-- The scratch `arg8` the kernel carries between points, as a view: what it holds is stated through it. -/
abbrev VS0_0 : View sig .tc .vmem S1024x3584 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.RunA.lean ====
/- The run of the kernel's body in case A. -/
module

public import proofs.«01_k».proof.Proof.Body

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 4668000 in
/-- What the body's stores leave in each output's staging memref, as pieces (last first) IN CASE A (the branch taken: points 0, 37, 74, 111, 148, 185), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .smem S28x148 .f32) (harg2 : arg2.IsWhole) (arg3 : Memref sig .tc .vmem S1024x3584 .fp8e4m3) (harg3 : arg3.IsWhole) (arg4 : Memref sig .tc .vmem S1024x28 .f32) (harg4 : arg4.IsWhole) (arg5 : Memref sig .tc .vmem S3584x512 .fp8e4m3) (harg5 : arg5.IsWhole) (arg6 : Memref sig .tc .vmem S1024x256 .fp8e4m3) (harg6 : arg6.IsWhole) (arg7 : Memref sig .tc .vmem S1024x74 .f32) (harg7 : arg7.IsWhole) (arg8 : Memref sig .tc .vmem S1024x3584 .bf16) (harg8 : arg8.IsWhole) (arg9 : Memref sig .tc .vmem S3584x512 .bf16) (harg9 : arg9.IsWhole) (hc0 : cond0_0 i)
    (x0 : Vec F S28x148 .f32) (x1 : Vec F S1024x3584 .fp8e4m3) (x2 : Vec F S1024x28 .f32) (x3 : Vec F S3584x512 .fp8e4m3) (xo5 : Vec F S1024x74 .f32) :
    Σ' (L4 : List (View.Piece (Elt F) S1024x256 .fp8e4m3)), Σ' (L5 : List (View.Piece (Elt F) S1024x74 .f32)), Σ' (LS0 : List (View.Piece (Elt F) S1024x3584 .bf16)), { LT1 : List (View.Piece (Elt F) S3584x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0_gate_up_swiglu i arg2 harg2 arg3 harg3 arg4 harg4 arg5 harg5 arg6 harg6 arg7 harg7 arg8 harg8 arg9 harg9) K } := by
  refine ⟨?_, ?_, ?_, ?_, fun E K => ?run⟩
  case run =>
    simp only [cc0_gate_up_swiglu_eq_skeleton]; unfold cc0_gate_up_swiglu_skel
    simp only [k0_part52_eq_skeleton, k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.KernelIdeal.Hand

end
-- ==== Proof.RunB.lean ====
/- The run of the kernel's body in case B. -/
module

public import proofs.«01_k».proof.Proof.RunA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 4036000 in
/-- What the body's stores leave in each output's staging memref, as pieces (last first) IN CASE B (the branch not taken: points 1, 2, … 221: 216 of 222), WITH the
    proof that on whole staging memrefs — the inputs' at their contents, the outputs it reads before covering (5) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .smem S28x148 .f32) (harg2 : arg2.IsWhole) (arg3 : Memref sig .tc .vmem S1024x3584 .fp8e4m3) (harg3 : arg3.IsWhole) (arg4 : Memref sig .tc .vmem S1024x28 .f32) (harg4 : arg4.IsWhole) (arg5 : Memref sig .tc .vmem S3584x512 .fp8e4m3) (harg5 : arg5.IsWhole) (arg6 : Memref sig .tc .vmem S1024x256 .fp8e4m3) (harg6 : arg6.IsWhole) (arg7 : Memref sig .tc .vmem S1024x74 .f32) (harg7 : arg7.IsWhole) (arg8 : Memref sig .tc .vmem S1024x3584 .bf16) (harg8 : arg8.IsWhole) (arg9 : Memref sig .tc .vmem S3584x512 .bf16) (harg9 : arg9.IsWhole) (hc0 : ¬cond0_0 i)
    (x0 : Vec F S28x148 .f32) (x1 : Vec F S1024x3584 .fp8e4m3) (x2 : Vec F S1024x28 .f32) (x3 : Vec F S3584x512 .fp8e4m3) (xo5 : Vec F S1024x74 .f32) (xs0 : Vec F S1024x3584 .bf16) :
    Σ' (L4 : List (View.Piece (Elt F) S1024x256 .fp8e4m3)), Σ' (L5 : List (View.Piece (Elt F) S1024x74 .f32)), Σ' (LS0 : List (View.Piece (Elt F) S1024x3584 .bf16)), { LT1 : List (View.Piece (Elt F) S3584x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5 ∗ owns (c : Thread nD τ) arg8 fullShare xs0 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xs0 ∗ (∃ f, arg9.view.loc (c : Thread nD τ) ↦[arg9.view.set]{fullShare} arg9.view.writes (Elt F) f LT1)) -∗ K ⟨⟩))
          ⊢ wp frame (wpE (defs₀ (F := F)) Variants.none c none) E (cc0_gate_up_swiglu i arg2 harg2 arg3 harg3 arg4 harg4 arg5 harg5 arg6 harg6 arg7 harg7 arg8 harg8 arg9 harg9) K } := by
  refine ⟨?_, ?_, [], ?_, fun E K => ?run⟩
  case run =>
    simp only [cc0_gate_up_swiglu_eq_skeleton]; unfold cc0_gate_up_swiglu_skel
    simp only [k0_part52_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]
    · iexists _; isplitr; · ipureintro; exact harg8.read_unread _
      iexact HS0
    iexists _; iexact HS1

end Cert.KernelIdeal.Hand

end
-- ==== Proof.Scalars.lean ====
/- The quantiser of both programs, one element at a time: the kernel's, which finds the exponent field of a number by bisection and
   assembles the powers of two as bit patterns, and the reference's, which takes a logarithm. -/
module

public import Idealize.ShloMosaic.Lib.ValueIdx

@[expose] public section

noncomputable section

namespace Cert.Spec

open Idealize.ShloMosaic

variable {F : FTy → Type} [FloatOps F]

/-! ## What both programs compute before they quantise -/

/-- The SwiGLU of a gate and an up value, `(g · 1 / (1 + exp(0 - g))) · u`, as the kernel writes it. -/
def hS (g u : F .f32) : F .f32 :=
  FloatOps.mulf (FloatOps.mulf g (FloatOps.divf (FloatOps.ofBits .f32 0x3F800000#32)
    (FloatOps.addf (FloatOps.ofBits .f32 0x3F800000#32) (FloatOps.exp (FloatOps.subf (FloatOps.ofBits .f32 0x00000000#32) g))))) u

/-! ## The kernel's quantiser -/

/-- One step of the bisection: add `b` to the exponent field `f` when the sum stays within 252 and `v` is at least its power of two. -/
def stepS (v : F .f32) (f b : BitVec 32) : BitVec 32 :=
  Scalar.select (IntOp.andi (IntOp.cmpi .sle (IntOp.addi f b) 252#32)
    (FloatOps.cmpf .oge v (FloatOps.ofBits .f32 (IntOp.shli .vector (IntOp.addi f b) 23#32)))) (IntOp.addi f b) f
/-- The bisection's first four steps … -/
def fieldHi (v : F .f32) : BitVec 32 := stepS v (stepS v (stepS v (stepS v 0#32 128#32) 64#32) 32#32) 16#32
/-- … and all eight. -/
def fieldLo (v : F .f32) : BitVec 32 := stepS v (stepS v (stepS v (stepS v (fieldHi v) 8#32) 4#32) 2#32) 1#32
/-- The exponent field: 255 at infinity. -/
def fieldS (v : F .f32) : BitVec 32 :=
  Scalar.select (FloatOps.cmpf .oeq v (FloatOps.ofBits .f32 0x7F800000#32)) 255#32 (fieldLo v)
/-- The exponent of the scale: 0 at the field's ends, the field less 126 between. -/
def eS (v : F .f32) : BitVec 32 :=
  Scalar.select (IntOp.ori (IntOp.cmpi .eq (fieldS v) 0#32) (IntOp.cmpi .eq (fieldS v) 255#32)) 0#32 (IntOp.subi (fieldS v) 126#32)
/-- The scale: the power of two of the exponent. -/
def sclS (v : F .f32) : F .f32 := FloatOps.ofBits .f32 (IntOp.shli .vector (IntOp.addi (eS v) 127#32) 23#32)
/-- The scale's inverse. -/
def invS (v : F .f32) : F .f32 := FloatOps.ofBits .f32 (IntOp.shli .vector (IntOp.subi 127#32 (eS v)) 23#32)
/-- A code: the number scaled, clipped to ±448. -/
def clipS (h s : F .f32) : F .f32 :=
  FloatOps.minimumf (FloatOps.ofBits .f32 0x43E00000#32) (FloatOps.maximumf (FloatOps.ofBits .f32 0xC3E00000#32) (FloatOps.mulf h s))

/-! ## The reference's exponent -/

/-- The reference's exponent: `min (floor (log v / log 2) + 1) 126`, and 0 below the smallest normal number and at infinity. -/
def refE (v : F .f32) : F .f32 :=
  Scalar.select (IntOp.ori (FloatOps.cmpf .olt v (FloatOps.ofBits .f32 0x00800000#32)) (FloatOps.cmpf .oeq v (FloatOps.ofBits .f32 0x7F800000#32)))
    (FloatOps.ofBits .f32 0x00000000#32)
    (FloatOps.minimumf (FloatOps.addf (FloatOps.floor (FloatOps.divf (FloatOps.log v) (Scalar.log (FloatOps.ofBits .f32 0x40000000#32))))
      (FloatOps.ofBits .f32 0x3F800000#32)) (FloatOps.ofBits .f32 0x42FC0000#32))

end Cert.Spec

end
-- ==== Proof.Pieces.lean ====
/- The pieces the body stores into its two scratch buffers, as the tiles of two functions of the input blocks: the widened
   activations and the widened weights. -/
module

public import proofs.«01_k».proof.Proof.RunB
public import proofs.«01_k».proof.Proof.Scalars
public import Idealize.ShloMosaic.Lib.Pipeline.Value
public import Idealize.ShloMosaic.Lib.WholeRead

@[expose] public section

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx

variable {F : FTy → Type} [FloatOps F]

theorem off00 : (![0, 0] : Fin 2 → ℕ) = fun _ => 0 := by
  funext a; fin_cases a <;> rfl

/-! ## The activations -/

/-- The widened activations of a row block: each code times the scale of its row and group of 128 columns, rounded to bf16. -/
def XB (x1 : Vec F S1024x3584 .fp8e4m3) (x2 : Vec F S1024x28 .f32) : Vec F S1024x3584 .bf16 := fun y =>
  FloatOps.truncf .bf16 bitsLt_bf16_f32 (FloatOps.mulf (FloatOps.extf .f32 bitsLt_fp8e4m3_f32 (x1 y))
    (x2 (ix2 (y 0 : Fin 1024) ⟨(y 1).val / 128, Nat.div_lt_of_lt_mul (y 1).isLt⟩)))

theorem xoff (g : Fin 28) : ∀ a, (![0, 128 * g.val] : Fin 2 → ℕ) a + S1024x128.size a ≤ S1024x3584.size a := by
  intro a; fin_cases a
  · exact Nat.le_refl 1024
  · show 128 * g.val + 128 ≤ 3584; omega
theorem xsoff (g : Fin 28) : ∀ a, (![0, g.val] : Fin 2 → ℕ) a + S1024x1.size a ≤ S1024x28.size a := by
  intro a; fin_cases a
  · exact Nat.le_refl 1024
  · show g.val + 1 ≤ 28; omega

/-- The piece of group `g`. -/
def xPiece (arg3 : Memref sig .tc .vmem S1024x3584 .fp8e4m3) (harg3 : arg3.IsWhole) (arg4 : Memref sig .tc .vmem S1024x28 .f32) (harg4 : arg4.IsWhole)
    (x1 : Vec F S1024x3584 .fp8e4m3) (x2 : Vec F S1024x28 .f32) (g : Fin 28) : View.Piece (Elt F) S1024x3584 .bf16 :=
  ⟨Rect.unit ![0, 128 * g.val] S1024x128.size (xoff g),
    k0_pay3 (View.readAt (Elt F) arg3.view (Rect.unit (s := S1024x3584) ![0, 128 * g.val] S1024x128.size (xoff g)).toLoadRect (harg3.unread x1))
      (View.readAt (Elt F) arg4.view (Rect.unit (s := S1024x28) ![0, g.val] S1024x1.size (xsoff g)).toLoadRect (harg4.unread x2))⟩

theorem HS0_28_eq (c : Dev nD) (arg3 : Memref sig .tc .vmem S1024x3584 .fp8e4m3) (harg3 : arg3.IsWhole) (arg4 : Memref sig .tc .vmem S1024x28 .f32) (harg4 : arg4.IsWhole)
    (x1 : Vec F S1024x3584 .fp8e4m3) (x2 : Vec F S1024x28 .f32) :
    kernelRun0_A.sl.HS0_28 c arg3 harg3 arg4 harg4 x1 x2 = (List.finRange 28).reverse.map (xPiece arg3 harg3 arg4 harg4 x1 x2) := by
  rfl

/-- The pieces cover the scratch. -/
theorem cover_x (arg3 : Memref sig .tc .vmem S1024x3584 .fp8e4m3) (harg3 : arg3.IsWhole) (arg4 : Memref sig .tc .vmem S1024x28 .f32) (harg4 : arg4.IsWhole)
    (x1 : Vec F S1024x3584 .fp8e4m3) (x2 : Vec F S1024x28 .f32) (y : S1024x3584.Idx) :
    ∃ p ∈ (List.finRange 28).reverse.map (xPiece arg3 harg3 arg4 harg4 x1 x2), y ∈ p.1.set := by
  have h0 : (y 0).val < 1024 := (y 0).isLt
  have h1 : (y 1).val < 3584 := (y 1).isLt
  refine ⟨_, List.mem_map.2 ⟨⟨(y 1).val / 128, by omega⟩, by simp, rfl⟩, ?_⟩
  refine (Rect.mem_set_unit (inb := xoff _)).2 fun a => ?_
  fin_cases a
  · show 0 ≤ (y 0).val ∧ (y 0).val < 0 + 1024; omega
  · show 128 * ((y 1).val / 128) ≤ (y 1).val ∧ (y 1).val < 128 * ((y 1).val / 128) + 128; omega

/-- A piece of the activations is the tile of `XB` its rectangle names. -/
theorem xPiece_apply (arg3 : Memref sig .tc .vmem S1024x3584 .fp8e4m3) (harg3 : arg3.IsWhole) (arg4 : Memref sig .tc .vmem S1024x28 .f32) (harg4 : arg4.IsWhole)
    (x1 : Vec F S1024x3584 .fp8e4m3) (x2 : Vec F S1024x28 .f32) (g : Fin 28) (x : S1024x128.Idx) :
    (xPiece arg3 harg3 arg4 harg4 x1 x2 g).2 x = XB x1 x2 ((xPiece arg3 harg3 arg4 harg4 x1 x2 g).1.emb x) := by
  have hx : (xPiece arg3 harg3 arg4 harg4 x1 x2 g).2 x
      = k0_pay3 (View.readAt (Elt F) arg3.view (Rect.unit (s := S1024x3584) ![0, 128 * g.val] S1024x128.size (xoff g)).toLoadRect (harg3.unread x1))
      (View.readAt (Elt F) arg4.view (Rect.unit (s := S1024x28) ![0, g.val] S1024x1.size (xsoff g)).toLoadRect (harg4.unread x2)) x := rfl
  rw [hx, k0_pay3]
  simp only [shapeCast_self, mulf, extf, truncf, broadcastTo]
  rw [harg3.readAt_unread, harg4.readAt_unread]
  unfold XB
  congr 2
  refine congrArg x2 ?_
  have hlt := (x 1).isLt
  funext a
  apply Fin.ext
  fin_cases a
  · rfl
  · show g.val + 1 * 0 = (128 * g.val + 1 * (x 1).val) / 128
    have : (x 1).val < 128 := (x 1).isLt
    omega

/-- What the body's first branch leaves in the scratch of the activations. -/
theorem canon_x (arg3 : Memref sig .tc .vmem S1024x3584 .fp8e4m3) (harg3 : arg3.IsWhole) (arg4 : Memref sig .tc .vmem S1024x28 .f32) (harg4 : arg4.IsWhole)
    (x1 : Vec F S1024x3584 .fp8e4m3) (x2 : Vec F S1024x28 .f32) (y : S1024x3584.Idx) :
    View.canon ((List.finRange 28).reverse.map (xPiece arg3 harg3 arg4 harg4 x1 x2)) y = XB x1 x2 y := by
  refine View.canon_apply_of_pieces (XB x1 x2) _ ?_ y (cover_x arg3 harg3 arg4 harg4 x1 x2 y)
  intro p hp x
  obtain ⟨g, -, rfl⟩ := List.mem_map.1 hp
  exact xPiece_apply arg3 harg3 arg4 harg4 x1 x2 g x

/-! ## The weights -/

/-- Where the scale of block row `g` and block column `j` of point `i` lies. -/
def wOff (i : grid0.Coords) (g : Fin 28) (j : Fin 4) : Fin 2 → Nat :=
  let v4 : BitVec 32 := Scalar.addi (Scalar.muli (BitVec.ofNat 32 (i 1).val) 4#32) (BitVec.ofNat 32 j.val)
  ![g.val, (Scalar.indexCast v4 : Index).toNat]

theorem wOff_eq (i : grid0.Coords) (g : Fin 28) (j : Fin 4) : wOff i g j = ![g.val, (i 1).val * 4 + j.val] := by
  have h1 : (i 1).val < 37 := (i 1).isLt
  have h2 := j.isLt
  have e : (Scalar.indexCast (Scalar.addi (Scalar.muli (BitVec.ofNat 32 (i 1).val) 4#32) (BitVec.ofNat 32 j.val)) : Index).toNat = (i 1).val * 4 + j.val := by
    show (BitVec.ofNat 32 (i 1).val * 4#32 + BitVec.ofNat 32 j.val).toNat = _
    rw [BitVec.toNat_add, BitVec.toNat_mul, BitVec.toNat_ofNat, BitVec.toNat_ofNat]
    rw [BitVec.toNat_ofNat]
    omega
  unfold wOff; simp only [e]

theorem wsoff (i : grid0.Coords) (g : Fin 28) (j : Fin 4) : ∀ a, wOff i g j a + S1x1.size a ≤ S28x148.size a := by
  have h1 : (i 1).val < 37 := (i 1).isLt
  rw [wOff_eq]
  intro a; fin_cases a
  · show g.val + 1 ≤ 28; omega
  · show (i 1).val * 4 + j.val + 1 ≤ 148; omega

theorem woff (g : Fin 28) (j : Fin 4) : ∀ a, (![128 * g.val, 128 * j.val] : Fin 2 → ℕ) a + S128x128.size a ≤ S3584x512.size a := by
  intro a; fin_cases a
  · show 128 * g.val + 128 ≤ 3584; omega
  · show 128 * j.val + 128 ≤ 512; omega

/-- The piece of block row `k / 4` and block column `k % 4`. -/
def wPiece (i : grid0.Coords) (arg2 : Memref sig .tc .smem S28x148 .f32) (harg2 : arg2.IsWhole) (arg5 : Memref sig .tc .vmem S3584x512 .fp8e4m3) (harg5 : arg5.IsWhole)
    (x0 : Vec F S28x148 .f32) (x3 : Vec F S3584x512 .fp8e4m3) (g : Fin 28) (j : Fin 4) : View.Piece (Elt F) S3584x512 .bf16 :=
  ⟨Rect.unit ![128 * g.val, 128 * j.val] S128x128.size (woff g j),
    k0_pay37 (View.readAt (Elt F) arg2.view (Rect.unit (s := S28x148) (wOff i g j) S1x1.size (wsoff i g j)).toLoadRect (harg2.unread x0) (Shape.Idx.first (numel1_S1x1 ▸ Nat.one_pos)))
      (View.readAt (Elt F) arg5.view (Rect.unit (s := S3584x512) ![128 * g.val, 128 * j.val] S128x128.size (woff g j)).toLoadRect (harg5.unread x3))⟩

theorem HS1_112_eq_A (c : Dev nD) (i : grid0.Coords) (arg2 : Memref sig .tc .smem S28x148 .f32) (harg2 : arg2.IsWhole) (arg5 : Memref sig .tc .vmem S3584x512 .fp8e4m3) (harg5 : arg5.IsWhole)
    (x0 : Vec F S28x148 .f32) (x3 : Vec F S3584x512 .fp8e4m3) :
    kernelRun0_A.sl.HS1_112 c i arg2 harg2 arg5 harg5 x0 x3 = (List.finRange 28).reverse.flatMap fun g => (List.finRange 4).reverse.map fun j => wPiece i arg2 harg2 arg5 harg5 x0 x3 g j := by
  rfl

/-- The same list in the other case. -/
theorem HS1_112_eq_B (c : Dev nD) (i : grid0.Coords) (arg2 : Memref sig .tc .smem S28x148 .f32) (harg2 : arg2.IsWhole) (arg5 : Memref sig .tc .vmem S3584x512 .fp8e4m3) (harg5 : arg5.IsWhole)
    (x0 : Vec F S28x148 .f32) (x3 : Vec F S3584x512 .fp8e4m3) :
    kernelRun0_B.sl.HS1_112 c i arg2 harg2 arg5 harg5 x0 x3 = (List.finRange 28).reverse.flatMap fun g => (List.finRange 4).reverse.map fun j => wPiece i arg2 harg2 arg5 harg5 x0 x3 g j := by
  rfl

/-- The column block of a point. -/
def nI (i : grid0.Coords) : Fin 37 := ⟨(i 1).val, (i 1).isLt⟩

/-- The widened weights of column block `n`: each code times the scale, rounded to bf16, of its 128 × 128 block. -/
def WB (n : Fin 37) (x0 : Vec F S28x148 .f32) (x3 : Vec F S3584x512 .fp8e4m3) : Vec F S3584x512 .bf16 := fun y =>
  FloatOps.mulf (FloatOps.extf .bf16 bitsLt_fp8e4m3_bf16 (x3 y)) (FloatOps.scalar.truncf .bf16 bitsLt_bf16_f32
    (x0 (ix2 ⟨(y 0).val / 128, Nat.div_lt_of_lt_mul (y 0).isLt⟩
      ⟨n.val * 4 + (y 1).val / 128, by have := n.isLt; have : (y 1).val / 128 < 4 := Nat.div_lt_of_lt_mul (y 1).isLt; omega⟩)))

/-- A piece of the weights is the tile of `WB` its rectangle names. -/
theorem wPiece_apply (i : grid0.Coords) (arg2 : Memref sig .tc .smem S28x148 .f32) (harg2 : arg2.IsWhole) (arg5 : Memref sig .tc .vmem S3584x512 .fp8e4m3) (harg5 : arg5.IsWhole)
    (x0 : Vec F S28x148 .f32) (x3 : Vec F S3584x512 .fp8e4m3) (g : Fin 28) (j : Fin 4) (x : S128x128.Idx) :
    (wPiece i arg2 harg2 arg5 harg5 x0 x3 g j).2 x = WB (nI i) x0 x3 ((wPiece i arg2 harg2 arg5 harg5 x0 x3 g j).1.emb x) := by
  have hx : (wPiece i arg2 harg2 arg5 harg5 x0 x3 g j).2 x
      = k0_pay37 (View.readAt (Elt F) arg2.view (Rect.unit (s := S28x148) (wOff i g j) S1x1.size (wsoff i g j)).toLoadRect (harg2.unread x0) (Shape.Idx.first (numel1_S1x1 ▸ Nat.one_pos)))
      (View.readAt (Elt F) arg5.view (Rect.unit (s := S3584x512) ![128 * g.val, 128 * j.val] S128x128.size (woff g j)).toLoadRect (harg5.unread x3)) x := rfl
  rw [hx, k0_pay37]
  simp only [shapeCast_self, mulf, extf, broadcast, Scalar.truncf]
  rw [harg5.readAt_unread, harg2.readAt_unread]
  unfold WB
  congr 2
  refine congrArg x0 ?_
  have h0 : (x 0).val < 128 := (x 0).isLt
  have h1 : (x 1).val < 128 := (x 1).isLt
  have hw := wOff_eq i g j
  funext a
  apply Fin.ext
  fin_cases a
  · show wOff i g j 0 + 1 * 0 = (128 * g.val + 1 * (x 0).val) / 128
    rw [hw]; show g.val + 1 * 0 = _; omega
  · show wOff i g j 1 + 1 * 0 = (i 1).val * 4 + (128 * j.val + 1 * (x 1).val) / 128
    rw [hw]; show (i 1).val * 4 + j.val + 1 * 0 = _; omega

/-- All the pieces of the weights. -/
abbrev wPieces (i : grid0.Coords) (arg2 : Memref sig .tc .smem S28x148 .f32) (harg2 : arg2.IsWhole) (arg5 : Memref sig .tc .vmem S3584x512 .fp8e4m3) (harg5 : arg5.IsWhole)
    (x0 : Vec F S28x148 .f32) (x3 : Vec F S3584x512 .fp8e4m3) : List (View.Piece (Elt F) S3584x512 .bf16) :=
  (List.finRange 28).reverse.flatMap fun g => (List.finRange 4).reverse.map fun j => wPiece i arg2 harg2 arg5 harg5 x0 x3 g j

/-- They cover the scratch. -/
theorem cover_w (i : grid0.Coords) (arg2 : Memref sig .tc .smem S28x148 .f32) (harg2 : arg2.IsWhole) (arg5 : Memref sig .tc .vmem S3584x512 .fp8e4m3) (harg5 : arg5.IsWhole)
    (x0 : Vec F S28x148 .f32) (x3 : Vec F S3584x512 .fp8e4m3) (y : S3584x512.Idx) :
    ∃ p ∈ wPieces i arg2 harg2 arg5 harg5 x0 x3, y ∈ p.1.set := by
  have h0 : (y 0).val < 3584 := (y 0).isLt
  have h1 : (y 1).val < 512 := (y 1).isLt
  refine ⟨_, List.mem_flatMap.2 ⟨⟨(y 0).val / 128, by omega⟩, by simp, List.mem_map.2 ⟨⟨(y 1).val / 128, by omega⟩, by simp, rfl⟩⟩, ?_⟩
  refine (Rect.mem_set_unit (inb := woff _ _)).2 fun a => ?_
  fin_cases a
  · show 128 * ((y 0).val / 128) ≤ (y 0).val ∧ (y 0).val < 128 * ((y 0).val / 128) + 128; omega
  · show 128 * ((y 1).val / 128) ≤ (y 1).val ∧ (y 1).val < 128 * ((y 1).val / 128) + 128; omega

/-- What the body leaves in the scratch of the weights. -/
theorem canon_w (i : grid0.Coords) (arg2 : Memref sig .tc .smem S28x148 .f32) (harg2 : arg2.IsWhole) (arg5 : Memref sig .tc .vmem S3584x512 .fp8e4m3) (harg5 : arg5.IsWhole)
    (x0 : Vec F S28x148 .f32) (x3 : Vec F S3584x512 .fp8e4m3) (y : S3584x512.Idx) :
    View.canon (wPieces i arg2 harg2 arg5 harg5 x0 x3) y = WB (nI i) x0 x3 y := by
  refine View.canon_apply_of_pieces (WB (nI i) x0 x3) _ ?_ y (cover_w i arg2 harg2 arg5 harg5 x0 x3 y)
  intro p hp x
  obtain ⟨g, -, hp⟩ := List.mem_flatMap.1 hp
  obtain ⟨j, -, rfl⟩ := List.mem_map.1 hp
  exact wPiece_apply i arg2 harg2 arg5 harg5 x0 x3 g j x

/-! ## What the body loads back -/

/-- The activations the product loads, where the branch was taken. -/
theorem v1347_A (c : Dev nD) (arg3 : Memref sig .tc .vmem S1024x3584 .fp8e4m3) (harg3 : arg3.IsWhole) (arg4 : Memref sig .tc .vmem S1024x28 .f32) (harg4 : arg4.IsWhole)
    (arg8 : Memref sig .tc .vmem S1024x3584 .bf16) (x1 : Vec F S1024x3584 .fp8e4m3) (x2 : Vec F S1024x28 .f32) :
    kernelRun0_A.sl.v1347 c arg3 harg3 arg4 harg4 arg8 x1 x2 = XB x1 x2 := by
  unfold kernelRun0_A.sl.v1347
  rw [HS0_28_eq, View.readCov_eq_canon_ld _ _ _ (cover_x arg3 harg3 arg4 harg4 x1 x2), View.ld_unit_zero off00]
  exact funext fun y => canon_x arg3 harg3 arg4 harg4 x1 x2 y

/-- The weights the product loads, where the branch was taken … -/
theorem v1348_A (c : Dev nD) (i : grid0.Coords) (arg2 : Memref sig .tc .smem S28x148 .f32) (harg2 : arg2.IsWhole) (arg5 : Memref sig .tc .vmem S3584x512 .fp8e4m3) (harg5 : arg5.IsWhole)
    (arg9 : Memref sig .tc .vmem S3584x512 .bf16) (x0 : Vec F S28x148 .f32) (x3 : Vec F S3584x512 .fp8e4m3) :
    kernelRun0_A.sl.v1348 c i arg2 harg2 arg5 harg5 arg9 x0 x3 = WB (nI i) x0 x3 := by
  unfold kernelRun0_A.sl.v1348
  rw [HS1_112_eq_A, View.readCov_eq_canon_ld _ _ _ (cover_w i arg2 harg2 arg5 harg5 x0 x3), View.ld_unit_zero off00]
  exact funext fun y => canon_w i arg2 harg2 arg5 harg5 x0 x3 y

/-- … and where it was not. -/
theorem v1348_B (c : Dev nD) (i : grid0.Coords) (arg2 : Memref sig .tc .smem S28x148 .f32) (harg2 : arg2.IsWhole) (arg5 : Memref sig .tc .vmem S3584x512 .fp8e4m3) (harg5 : arg5.IsWhole)
    (arg9 : Memref sig .tc .vmem S3584x512 .bf16) (x0 : Vec F S28x148 .f32) (x3 : Vec F S3584x512 .fp8e4m3) :
    kernelRun0_B.sl.v1348 c i arg2 harg2 arg5 harg5 arg9 x0 x3 = WB (nI i) x0 x3 := by
  unfold kernelRun0_B.sl.v1348
  rw [HS1_112_eq_B, View.readCov_eq_canon_ld _ _ _ (cover_w i arg2 harg2 arg5 harg5 x0 x3), View.ld_unit_zero off00]
  exact funext fun y => canon_w i arg2 harg2 arg5 harg5 x0 x3 y

end Cert.KernelIdeal.Hand

end
-- ==== Proof.Block.lean ====
/- What the body computes from the two widened operands of a grid point, in terms of the quantiser one element at a time. -/
module

public import proofs.«01_k».proof.Proof.Pieces

@[expose] public section

set_option maxRecDepth 16384

noncomputable section

namespace Cert.KernelIdeal.Hand

open Cert.KernelIdeal.Gen Cert.Spec
open Idealize.ShloMosaic Idealize.ShloMosaic.TcCoe Idealize.ShloMosaic.Tactic Idealize.ShloMosaic.ValueIdx

variable {F : FTy → Type} [FloatOps F]

/-! ## The block, one element at a time -/

/-- The product of a grid point. -/
def yB (xb : Vec F S1024x3584 .bf16) (wb : Vec F S3584x512 .bf16) : FVec F S1024x512 .f32 := k0_pay223 xb wb

/-- The SwiGLU of pair `p` of the block: columns `256 p …` are the gate, columns `256 p + 128 …` the up projection. -/
def hB (y : FVec F S1024x512 .f32) (p : Fin 2) : FVec F S1024x128 .f32 := fun z =>
  hS (y (ix2 (z 0 : Fin 1024) ⟨256 * p.val + (z 1).val, by have : (z 1).val < 128 := (z 1).isLt; omega⟩))
    (y (ix2 (z 0 : Fin 1024) ⟨256 * p.val + 128 + (z 1).val, by have : (z 1).val < 128 := (z 1).isLt; omega⟩))

/-- The largest magnitude of each row of 128, unscaled … -/
def rB (h : FVec F S1024x128 .f32) : FVec F S1024 .f32 :=
  multiReduction .maximumf [1] S1024 (absf h) 0xFF800000#32 reduces_S1024x128_S1024 (.inl rfl) rfl
/-- … and over 448. -/
def vB (h : FVec F S1024x128 .f32) (r : Fin 1024) : F .f32 := FloatOps.mulf (rB h (ix1 r)) (FloatOps.ofBits .f32 0x3B124925#32)

/-- The codes of a pair. -/
def cB (h : FVec F S1024x128 .f32) : FVec F S1024x128 .fp8e4m3 := fun z =>
  FloatOps.truncf .fp8e4m3 bitsLt_fp8e4m3_f32 (clipS (h z) (invS (vB h (z 0))))

/-- The codes of a grid point: two pairs side by side. -/
def codesB (y : FVec F S1024x512 .f32) : Vec F S1024x256 .fp8e4m3 := fun z =>
  cB (hB y ⟨(z 1).val / 128, Nat.div_lt_of_lt_mul (z 1).isLt⟩) (ix2 (z 0 : Fin 1024) ⟨(z 1).val % 128, Nat.mod_lt _ (by omega)⟩)

/-- The scales of a grid point, in lanes `2 n` and `2 n + 1` of what was there. -/
def scalesB (y : FVec F S1024x512 .f32) (n : Fin 37) (old : Vec F S1024x74 .f32) : Vec F S1024x74 .f32 := fun z =>
  if (z 1).val = 2 * n.val + 1 then sclS (vB (hB y 1) (z 0)) else if (z 1).val = 2 * n.val then sclS (vB (hB y 0) (z 0)) else old z

/-! ## The payloads -/

theorem bcast128 {α : Type} (w : S1024x1.Idx → α) (z : S1024x128.Idx) :
    broadcastTo S1024x128 w broadcasts_S1024x1_S1024x128 z = w (ix2 (z 0 : Fin 1024) 0) := by
  refine congrArg w ?_
  funext a; apply Fin.ext; fin_cases a <;> rfl
theorem bcast74 {α : Type} (w : S1024x1.Idx → α) (z : S1024x74.Idx) :
    broadcastTo S1024x74 w broadcasts_S1024x1_S1024x74 z = w (ix2 (z 0 : Fin 1024) 0) := by
  refine congrArg w ?_
  funext a; apply Fin.ext; fin_cases a <;> rfl

/-- A vector cast to a column. -/
theorem colCast {α : Type} (w : S1024.Idx → α) (r : Fin 1024) :
    shapeCast S1024x1 w shapeCasts_S1024_S1024x1 (ix2 r 0) = w (ix1 r) := by
  refine shapeCast_apply w _ _ _ ?_
  rw [Shape.rowMajor_val_one, Shape.rowMajor_val_two]
  show r.val = r.val * 1 + 0; omega

theorem h0_eq (xb : Vec F S1024x3584 .bf16) (wb : Vec F S3584x512 .bf16) : k0_pay225 xb wb = hB (yB xb wb) 0 := by
  funext z
  have e (o : ℕ) (ho : o + 128 ≤ 512) (hs) : extractStridedSlice S1024x128 ![0, o] (yB xb wb) hs z
      = yB xb wb (ix2 (z 0 : Fin 1024) ⟨o + (z 1).val, by have : (z 1).val < 128 := (z 1).isLt; omega⟩) := by
    refine congrArg (yB xb wb) ?_
    funext a; apply Fin.ext; fin_cases a
    · show 0 + (z 0).val = (z 0).val; omega
    · rfl
  have e0 := e 0 (by omega) slices_S1024x512_o0_0_S1024x128
  have e1 := e 128 (by omega) slices_S1024x512_o0_128_S1024x128
  show hS (extractStridedSlice S1024x128 ![0, 0] (yB xb wb) _ z) (extractStridedSlice S1024x128 ![0, 128] (yB xb wb) _ z) = _
  rw [e0, e1]; rfl

theorem h1_eq (y : FVec F S1024x512 .f32) : k0_pay236 y = hB y 1 := by
  funext z
  have e (o : ℕ) (ho : o + 128 ≤ 512) (hs) : extractStridedSlice S1024x128 ![0, o] y hs z
      = y (ix2 (z 0 : Fin 1024) ⟨o + (z 1).val, by have : (z 1).val < 128 := (z 1).isLt; omega⟩) := by
    refine congrArg y ?_
    funext a; apply Fin.ext; fin_cases a
    · show 0 + (z 0).val = (z 0).val; omega
    · rfl
  have e0 := e 256 (by omega) slices_S1024x512_o0_256_S1024x128
  have e1 := e 384 (by omega) slices_S1024x512_o0_384_S1024x128
  show hS (extractStridedSlice S1024x128 ![0, 256] y _ z) (extractStridedSlice S1024x128 ![0, 384] y _ z) = _
  rw [e0, e1]; rfl

/-- The scaled maxima of pair 0 … -/
theorem v0_eq (xb : Vec F S1024x3584 .bf16) (wb : Vec F S3584x512 .bf16) (r : Fin 1024) :
    k0_pay227 (k0_pay226 xb wb) (FloatOps.ofBits .f32 0x3B124925#32) (ix2 r 0) = vB (hB (yB xb wb) 0) r := by
  have h : k0_pay226 xb wb = shapeCast S1024x1 (rB (hB (yB xb wb) 0)) shapeCasts_S1024_S1024x1 := by
    show shapeCast S1024x1 (rB (k0_pay225 xb wb)) _ = _
    rw [h0_eq]
  rw [h]
  show FloatOps.mulf (shapeCast S1024x1 (rB (hB (yB xb wb) 0)) shapeCasts_S1024_S1024x1 (ix2 r 0)) _ = _
  rw [colCast]; rfl
/-- … and of pair 1. -/
theorem v1_eq (y : FVec F S1024x512 .f32) (r : Fin 1024) : k0_pay238 (k0_pay237 y) (ix2 r 0) = vB (hB y 1) r := by
  have h : k0_pay237 y = rB (hB y 1) := by
    show rB (k0_pay236 y) = _
    rw [h1_eq]
  rw [h]
  show FloatOps.mulf (shapeCast S1024x1 (rB (hB y 1)) shapeCasts_S1024_S1024x1 (ix2 r 0)) _ = _
  rw [colCast]; rfl

/-- The first half of the bisection, pair 0. -/
theorem hi0_eq (v : FVec F S1024x1 .f32) (c : F .f32) (j : S1024x1.Idx) : k0_pay228 v c j = fieldHi (k0_pay227 v c j) := rfl
/-- The whole field, pair 0. -/
theorem lo0_eq (v w : FVec F S1024x1 .f32) (c : F .f32) (j : S1024x1.Idx) :
    k0_pay230 w (k0_pay228 v c) (k0_pay229 v c) 252#32 j
      = Scalar.select (FloatOps.cmpf .oeq (w j) (FloatOps.ofBits .f32 0x7F800000#32)) 255#32
          (stepS (w j) (stepS (w j) (stepS (w j) (stepS (w j) (k0_pay228 v c j) 8#32) 4#32) 2#32) 1#32) := rfl
/-- The first half of the bisection, pair 1. -/
theorem hi1_eq (v : FVec F S1024 .f32) (j : S1024x1.Idx) : k0_pay239 v j = fieldHi (k0_pay238 v j) := rfl
/-- The whole field, pair 1. -/
theorem lo1_eq (w : FVec F S1024x1 .f32) (f : IVec S1024x1 32) (j : S1024x1.Idx) :
    k0_pay241 w f k0_pay240 j
      = Scalar.select (FloatOps.cmpf .oeq (w j) (FloatOps.ofBits .f32 0x7F800000#32)) 255#32
          (stepS (w j) (stepS (w j) (stepS (w j) (stepS (w j) (f j) 8#32) 4#32) 2#32) 1#32) := rfl

/-! ## The stored blocks -/

/-- The scale column of pair 0 from the bisection's results, as the kernel builds it … -/
abbrev fld0 (xb : Vec F S1024x3584 .bf16) (wb : Vec F S3584x512 .bf16) : IVec S1024x1 32 :=
  k0_pay230 (k0_pay227 (k0_pay226 xb wb) (FloatOps.ofBits .f32 0x3B124925#32)) (k0_pay228 (k0_pay226 xb wb) (FloatOps.ofBits .f32 0x3B124925#32))
    (k0_pay229 (k0_pay226 xb wb) (FloatOps.ofBits .f32 0x3B124925#32)) 252#32
/-- … and the field of pair 1. -/
abbrev fld1 (y : FVec F S1024x512 .f32) : IVec S1024x1 32 := k0_pay241 (k0_pay238 (k0_pay237 y)) (k0_pay239 (k0_pay237 y)) k0_pay240

theorem fld0_eq (xb : Vec F S1024x3584 .bf16) (wb : Vec F S3584x512 .bf16) (r : Fin 1024) :
    fld0 xb wb (ix2 r 0) = fieldS (vB (hB (yB xb wb) 0) r) := by
  rw [fld0, lo0_eq, hi0_eq, v0_eq]; rfl
theorem fld1_eq (y : FVec F S1024x512 .f32) (r : Fin 1024) : fld1 y (ix2 r 0) = fieldS (vB (hB y 1) r) := by
  rw [fld1, lo1_eq, hi1_eq, v1_eq]; rfl

/-- Two equal fields give equal scales. -/
theorem codes_of_field (h : FVec F S1024x128 .f32) (f : IVec S1024x1 32) (v : F .f32) (z : S1024x128.Idx)
    (hf : f (ix2 (z 0 : Fin 1024) 0) = fieldS v) :
    k0_pay234 h f (cmpi .eq f (broadcast S1024x1 0#32)) (cmpi .eq f (broadcast S1024x1 255#32)) z
      = FloatOps.truncf .fp8e4m3 bitsLt_fp8e4m3_f32 (clipS (h z) (invS v)) := by
  show FloatOps.truncf .fp8e4m3 _ (clipS (h z) (broadcastTo S1024x128 _ broadcasts_S1024x1_S1024x128 z)) = _
  rw [bcast128]
  unfold invS eS
  rw [← hf]; rfl
theorem codes_of_field' (h : FVec F S1024x128 .f32) (f : IVec S1024x1 32) (v : F .f32) (z : S1024x128.Idx)
    (hf : f (ix2 (z 0 : Fin 1024) 0) = fieldS v) :
    k0_pay1 h (k0_pay243 f (cmpi .eq f (broadcast S1024x1 0#32)) 255#32) 127#32 z
      = FloatOps.truncf .fp8e4m3 bitsLt_fp8e4m3_f32 (clipS (h z) (invS v)) := by
  show FloatOps.truncf .fp8e4m3 _ (clipS (h z) (broadcastTo S1024x128 _ broadcasts_S1024x1_S1024x128 z)) = _
  rw [bcast128]
  unfold invS eS
  rw [← hf]; rfl

/-- The two pieces stored into the block of codes. -/
abbrev codePieces (xb : Vec F S1024x3584 .bf16) (wb : Vec F S3584x512 .bf16) : List (View.Piece (Elt F) S1024x256 .fp8e4m3) :=
  [⟨Rect.unit (s := S1024x256) ![0, 128] ![1024, 128] inb_S1024x256_S1024x128_0_128,
      k0_pay1 (k0_pay236 (yB xb wb)) (k0_pay243 (fld1 (yB xb wb)) (k0_pay242 (k0_pay238 (k0_pay237 (yB xb wb))) (k0_pay239 (k0_pay237 (yB xb wb))) k0_pay240) 255#32) 127#32⟩,
    ⟨Rect.unit (s := S1024x256) ![0, 0] S1024x128.size inb_S1024x256_S1024x128_0_0,
      k0_pay234 (k0_pay225 xb wb) (fld0 xb wb) (cmpi .eq (fld0 xb wb) (broadcast S1024x1 0#32)) (cmpi .eq (fld0 xb wb) (broadcast S1024x1 255#32))⟩]

theorem cover_codes (xb : Vec F S1024x3584 .bf16) (wb : Vec F S3584x512 .bf16) (z : S1024x256.Idx) : ∃ p ∈ codePieces xb wb, z ∈ p.1.set := by
  have h0 : (z 0).val < 1024 := (z 0).isLt
  have h1 : (z 1).val < 256 := (z 1).isLt
  by_cases h : (z 1).val < 128
  · refine ⟨_, List.mem_cons_of_mem _ (List.mem_cons_self), (Rect.mem_set_unit (inb := inb_S1024x256_S1024x128_0_0)).2 fun a => ?_⟩
    fin_cases a
    · show 0 ≤ (z 0).val ∧ (z 0).val < 0 + 1024; omega
    · show 0 ≤ (z 1).val ∧ (z 1).val < 0 + 128; omega
  · refine ⟨_, List.mem_cons_self, (Rect.mem_set_unit (inb := inb_S1024x256_S1024x128_0_128)).2 fun a => ?_⟩
    fin_cases a
    · show 0 ≤ (z 0).val ∧ (z 0).val < 0 + 1024; omega
    · show 128 ≤ (z 1).val ∧ (z 1).val < 128 + 128; omega

/-- `codesB` at an element of pair `p`. -/
theorem codesB_at (y : FVec F S1024x512 .f32) (p : Fin 2) (x : S1024x128.Idx) (z : S1024x256.Idx) (h0 : (z 0).val = (x 0).val)
    (h1 : (z 1).val = 128 * p.val + (x 1).val) : codesB y z = cB (hB y p) x := by
  have hx : (x 1).val < 128 := (x 1).isLt
  unfold codesB
  have e1 : (⟨(z 1).val / 128, Nat.div_lt_of_lt_mul (z 1).isLt⟩ : Fin 2) = p := Fin.ext (by show (z 1).val / 128 = _; omega)
  have e2 : (ix2 (z 0 : Fin 1024) (⟨(z 1).val % 128, Nat.mod_lt _ (by omega)⟩ : Fin 128) : S1024x128.Idx) = x := by
    funext a; apply Fin.ext; fin_cases a
    · exact h0
    · show (z 1).val % 128 = (x 1).val; omega
  exact (congrArg (cB (hB y _)) e2).trans (congrArg (fun q => cB (hB y q) x) e1)

/-- The stored codes. -/
theorem canon_codes (xb : Vec F S1024x3584 .bf16) (wb : Vec F S3584x512 .bf16) (z : S1024x256.Idx) :
    View.canon (codePieces xb wb) z = codesB (yB xb wb) z := by
  refine View.canon_apply_of_pieces (codesB (yB xb wb)) _ ?_ z (cover_codes xb wb z)
  intro p hp
  rcases List.mem_cons.1 hp with rfl | hp
  · intro (x : S1024x128.Idx)
    refine (codes_of_field' (k0_pay236 (yB xb wb)) (fld1 (yB xb wb)) _ x (fld1_eq (yB xb wb) (x 0))).trans ?_
    rw [h1_eq]
    refine (codesB_at (yB xb wb) 1 x _ ?_ ?_).symm
    · show 0 + 1 * (x 0).val = _; omega
    · show 128 + 1 * (x 1).val = 128 * 1 + (x 1).val; omega
  · obtain rfl := List.mem_singleton.1 hp
    intro (x : S1024x128.Idx)
    refine (codes_of_field (k0_pay225 xb wb) (fld0 xb wb) _ x (fld0_eq xb wb (x 0))).trans ?_
    rw [h0_eq]
    refine (codesB_at (yB xb wb) 0 x _ ?_ ?_).symm
    · show 0 + 1 * (x 0).val = _; omega
    · show 0 + 1 * (x 1).val = 128 * 0 + (x 1).val; omega

/-- The lane a point's pair owns, as the kernel tests it. -/
theorem lane_iff (l n k : ℕ) (hl : l < 74) (hn : n < 37) (hk : k < 2) :
    IntOp.cmpi .eq (BitVec.ofNat 32 l) (Scalar.addi (Scalar.muli (BitVec.ofNat 32 n) 2#32) (BitVec.ofNat 32 k)) = 1#1 ↔ l = 2 * n + k := by
  rw [IntOp.cmpi_eq]
  show BitVec.ofNat 32 l = BitVec.ofNat 32 n * 2#32 + BitVec.ofNat 32 k ↔ _
  rw [← BitVec.toNat_inj]
  simp only [BitVec.toNat_ofNat, BitVec.toNat_add, BitVec.toNat_mul]
  omega

/-- The piece stored into the block of scales. -/
abbrev scalePay (xb : Vec F S1024x3584 .bf16) (wb : Vec F S3584x512 .bf16) (n : Fin 37) (old : Vec F S1024x74 .f32) : FVec F S1024x74 .f32 :=
  k0_pay2 (BitVec.ofNat 32 n.val) (iota Kind.tc S1024x74 32 [1] iota_S1024x74_d1_w32)
    (k0_pay235 (BitVec.ofNat 32 n.val) (iota Kind.tc S1024x74 32 [1] iota_S1024x74_d1_w32) (k0_pay224 old) (fld0 xb wb)
      (cmpi .eq (fld0 xb wb) (broadcast S1024x1 0#32)) (cmpi .eq (fld0 xb wb) (broadcast S1024x1 255#32)))
    (k0_pay244 (fld1 (yB xb wb)) (k0_pay242 (k0_pay238 (k0_pay237 (yB xb wb))) (k0_pay239 (k0_pay237 (yB xb wb))) k0_pay240) 255#32)

/-- The stored scales. -/
theorem scalePay_eq (xb : Vec F S1024x3584 .bf16) (wb : Vec F S3584x512 .bf16) (n : Fin 37) (old : Vec F S1024x74 .f32) :
    scalePay xb wb n old = scalesB (yB xb wb) n old := by
  funext z
  have hz : (z 1).val < 74 := (z 1).isLt
  let s0 : FVec F S1024x1 .f32 := bitcastToFloat .f32 (shli (addi (k0_pay233 (fld0 xb wb) (cmpi .eq (fld0 xb wb) (broadcast S1024x1 0#32)) (cmpi .eq (fld0 xb wb) (broadcast S1024x1 255#32))) (broadcast S1024x1 127#32)) (broadcast S1024x1 23#32))
  let s1 : FVec F S1024x1 .f32 := k0_pay244 (fld1 (yB xb wb)) (k0_pay242 (k0_pay238 (k0_pay237 (yB xb wb))) (k0_pay239 (k0_pay237 (yB xb wb))) k0_pay240) 255#32
  have e0 : s0 (ix2 (z 0 : Fin 1024) 0) = sclS (vB (hB (yB xb wb) 0) (z 0)) := by
    have hf := fld0_eq xb wb (z 0)
    unfold sclS eS; rw [← hf]; rfl
  have e1 : s1 (ix2 (z 0 : Fin 1024) 0) = sclS (vB (hB (yB xb wb) 1) (z 0)) := by
    have hf := fld1_eq (yB xb wb) (z 0)
    unfold sclS eS; rw [← hf]; rfl
  have hs : scalePay xb wb n old z
      = Scalar.select (IntOp.cmpi .eq (iota Kind.tc S1024x74 32 [1] iota_S1024x74_d1_w32 z) (Scalar.addi (Scalar.muli (BitVec.ofNat 32 n.val) 2#32) (BitVec.ofNat 32 1)))
          (broadcastTo S1024x74 (shapeCast S1024x1 s1 shapeCasts_S1024x1_S1024x1) broadcasts_S1024x1_S1024x74 z)
          (Scalar.select (IntOp.cmpi .eq (iota Kind.tc S1024x74 32 [1] iota_S1024x74_d1_w32 z) (Scalar.addi (Scalar.muli (BitVec.ofNat 32 n.val) 2#32) (BitVec.ofNat 32 0)))
            (broadcastTo S1024x74 (shapeCast S1024x1 s0 shapeCasts_S1024x1_S1024x1) broadcasts_S1024x1_S1024x74 z)
            (shapeCast S1024x74 old shapeCasts_S1024x74_S1024x74 z)) := rfl
  rw [hs, bcast74, bcast74, shapeCast_self, shapeCast_self, shapeCast_self, e0, e1, iota_single_apply]
  unfold scalesB
  show (if IntOp.cmpi .eq (BitVec.ofNat 32 (z 1).val) _ = 1#1 then _ else if IntOp.cmpi .eq (BitVec.ofNat 32 (z 1).val) _ = 1#1 then _ else _) = _
  rw [if_congr (lane_iff (z 1).val n.val 1 hz n.isLt (by omega)) rfl rfl, if_congr (lane_iff (z 1).val n.val 0 hz n.isLt (by omega)) rfl rfl]
  rfl

end Cert.KernelIdeal.Hand

end
-- ==== Proof.Outs.lean ====
/- What the two runs of the body leave in the block of codes, the block of scales and the scratch of the activations. -/
module

public import proofs.«01_k».proof.Proof.Block

@[expose] public section

set_option maxRecDepth 16384

noncomputable section

namespace Cert.KernelIdeal.Hand

open Cert.KernelIdeal.Gen Cert.Spec
open Idealize.ShloMosaic Idealize.ShloMosaic.TcCoe Idealize.ShloMosaic.Tactic Idealize.ShloMosaic.ValueIdx

variable {F : FTy → Type} [FloatOps F]

/-- A whole load of a buffer holding `x` reads `x`. -/
theorem readAt_whole {κ : Kind} {sp : Space} {e : EltTy} {a b : ℕ} (M : Memref sig κ sp ⟨2, ![a, b]⟩ e) (hM : M.IsWhole)
    (inb : ∀ k, (![0, 0] : Fin 2 → ℕ) k + (![a, b] : Fin 2 → ℕ) k ≤ (⟨2, ![a, b]⟩ : Shape).size k) (x : Vec F ⟨2, ![a, b]⟩ e) :
    View.readAt (Elt F) M.view (Rect.unit (s := ⟨2, ![a, b]⟩) ![0, 0] ![a, b] inb).toLoadRect (hM.unread x) = x := by
  funext y
  rw [hM.readAt_unread]
  refine congrArg x ?_
  funext k; apply Fin.ext; fin_cases k
  · show 0 + 1 * (y 0).val = (y 0).val; omega
  · show 0 + 1 * (y 1).val = (y 1).val; omega

section

variable (c : Dev nD) (i : grid0.Coords) (arg2 : Memref sig .tc .smem S28x148 .f32) (harg2 : arg2.IsWhole)
  (arg3 : Memref sig .tc .vmem S1024x3584 .fp8e4m3) (harg3 : arg3.IsWhole) (arg4 : Memref sig .tc .vmem S1024x28 .f32) (harg4 : arg4.IsWhole)
  (arg5 : Memref sig .tc .vmem S3584x512 .fp8e4m3) (harg5 : arg5.IsWhole) (arg6 : Memref sig .tc .vmem S1024x256 .fp8e4m3) (harg6 : arg6.IsWhole)
  (arg7 : Memref sig .tc .vmem S1024x74 .f32) (harg7 : arg7.IsWhole) (arg8 : Memref sig .tc .vmem S1024x3584 .bf16) (harg8 : arg8.IsWhole)
  (arg9 : Memref sig .tc .vmem S3584x512 .bf16) (harg9 : arg9.IsWhole)
  (x0 : Vec F S28x148 .f32) (x1 : Vec F S1024x3584 .fp8e4m3) (x2 : Vec F S1024x28 .f32) (x3 : Vec F S3584x512 .fp8e4m3) (xo5 : Vec F S1024x74 .f32)
  (xs0 : Vec F S1024x3584 .bf16)

/-- Where the branch is taken: the codes are the pieces of the widened activations and weights … -/
theorem L4_A (hc0 : cond0_0 i) :
    (kernelRun0_A c i arg2 harg2 arg3 harg3 arg4 harg4 arg5 harg5 arg6 harg6 arg7 harg7 arg8 harg8 arg9 harg9 hc0 x0 x1 x2 x3 xo5).1
      = codePieces (XB x1 x2) (WB (nI i) x0 x3) := by
  rw [← v1347_A c arg3 harg3 arg4 harg4 arg8 x1 x2, ← v1348_A c i arg2 harg2 arg5 harg5 arg9 x0 x3]
  rfl
/-- … the scales one piece … -/
theorem L5_A (hc0 : cond0_0 i) :
    (kernelRun0_A c i arg2 harg2 arg3 harg3 arg4 harg4 arg5 harg5 arg6 harg6 arg7 harg7 arg8 harg8 arg9 harg9 hc0 x0 x1 x2 x3 xo5).2.1
      = [⟨Rect.unit (s := S1024x74) ![0, 0] S1024x74.size inb_S1024x74_S1024x74_0_0, scalePay (XB x1 x2) (WB (nI i) x0 x3) (nI i) xo5⟩] := by
  rw [← v1347_A c arg3 harg3 arg4 harg4 arg8 x1 x2, ← v1348_A c i arg2 harg2 arg5 harg5 arg9 x0 x3]
  have h := readAt_whole arg7 harg7 inb_S1024x74_S1024x74_0_0 xo5
  conv_rhs => rw [← h]
  rfl
/-- … and the scratch the pieces of the activations. -/
theorem LS0_A (hc0 : cond0_0 i) :
    (kernelRun0_A c i arg2 harg2 arg3 harg3 arg4 harg4 arg5 harg5 arg6 harg6 arg7 harg7 arg8 harg8 arg9 harg9 hc0 x0 x1 x2 x3 xo5).2.2.1
      = kernelRun0_A.sl.HS0_28 c arg3 harg3 arg4 harg4 x1 x2 := rfl

/-- Where it is not: the same of the scratch as it was found. -/
theorem L4_B (hc0 : ¬cond0_0 i) :
    (kernelRun0_B c i arg2 harg2 arg3 harg3 arg4 harg4 arg5 harg5 arg6 harg6 arg7 harg7 arg8 harg8 arg9 harg9 hc0 x0 x1 x2 x3 xo5 xs0).1
      = codePieces xs0 (WB (nI i) x0 x3) := by
  rw [← v1348_B c i arg2 harg2 arg5 harg5 arg9 x0 x3]
  have h := readAt_whole arg8 harg8 inb_S1024x3584_S1024x3584_0_0 xs0
  conv_rhs => rw [← h]
  rfl
theorem L5_B (hc0 : ¬cond0_0 i) :
    (kernelRun0_B c i arg2 harg2 arg3 harg3 arg4 harg4 arg5 harg5 arg6 harg6 arg7 harg7 arg8 harg8 arg9 harg9 hc0 x0 x1 x2 x3 xo5 xs0).2.1
      = [⟨Rect.unit (s := S1024x74) ![0, 0] S1024x74.size inb_S1024x74_S1024x74_0_0, scalePay xs0 (WB (nI i) x0 x3) (nI i) xo5⟩] := by
  rw [← v1348_B c i arg2 harg2 arg5 harg5 arg9 x0 x3]
  have h := readAt_whole arg8 harg8 inb_S1024x3584_S1024x3584_0_0 xs0
  have h' := readAt_whole arg7 harg7 inb_S1024x74_S1024x74_0_0 xo5
  conv_rhs => rw [← h, ← h']
  rfl

end

/-! ## Read back through a staging buffer -/

theorem read_codes {sp : Space} (v : View sig .tc sp S1024x256 .fp8e4m3) (f : v.ty.Contents (Elt F)) (xb : Vec F S1024x3584 .bf16)
    (wb : Vec F S3584x512 .bf16) : v.read (Elt F) (v.writes (Elt F) f (codePieces xb wb)) = codesB (yB xb wb) := by
  rw [View.read_writes_eq_canon _ _ _ (cover_codes xb wb)]
  exact funext fun z => canon_codes xb wb z

/-- One piece over the whole block reads as its payload. -/
theorem read_one {sp : Space} (v : View sig .tc sp S1024x74 .f32) (f : v.ty.Contents (Elt F)) (w : Vec F S1024x74 .f32) :
    v.read (Elt F) (v.writes (Elt F) f [(⟨Rect.unit (s := S1024x74) ![0, 0] S1024x74.size inb_S1024x74_S1024x74_0_0, w⟩ : View.Piece (Elt F) S1024x74 .f32)]) = w := by
  have hc (y : S1024x74.Idx) :
      ∃ p ∈ [(⟨Rect.unit (s := S1024x74) ![0, 0] S1024x74.size inb_S1024x74_S1024x74_0_0, w⟩ : View.Piece (Elt F) S1024x74 .f32)], y ∈ p.1.set :=
    ⟨_, List.mem_cons_self, View.mem_set_unit_zero (S := S1024x74) off00 inb_S1024x74_S1024x74_0_0 y⟩
  exact (View.read_writes_eq_canon _ _ _ hc).trans (View.canon_unit_zero (S := S1024x74) off00 inb_S1024x74_S1024x74_0_0 w)

/-- The stored scales. -/
theorem read_scales {sp : Space} (v : View sig .tc sp S1024x74 .f32) (f : v.ty.Contents (Elt F)) (xb : Vec F S1024x3584 .bf16)
    (wb : Vec F S3584x512 .bf16) (n : Fin 37) (old : Vec F S1024x74 .f32) :
    v.read (Elt F) (v.writes (Elt F) f [(⟨Rect.unit (s := S1024x74) ![0, 0] S1024x74.size inb_S1024x74_S1024x74_0_0, scalePay xb wb n old⟩ : View.Piece (Elt F) S1024x74 .f32)])
      = scalesB (yB xb wb) n old :=
  (read_one v f _).trans (scalePay_eq xb wb n old)

theorem read_xb {sp : Space} (v : View sig .tc sp S1024x3584 .bf16) (f : v.ty.Contents (Elt F)) (c : Dev nD)
    (arg3 : Memref sig .tc .vmem S1024x3584 .fp8e4m3) (harg3 : arg3.IsWhole) (arg4 : Memref sig .tc .vmem S1024x28 .f32) (harg4 : arg4.IsWhole)
    (x1 : Vec F S1024x3584 .fp8e4m3) (x2 : Vec F S1024x28 .f32) :
    v.read (Elt F) (v.writes (Elt F) f (kernelRun0_A.sl.HS0_28 c arg3 harg3 arg4 harg4 x1 x2)) = XB x1 x2 := by
  rw [HS0_28_eq, View.read_writes_eq_canon _ _ _ (cover_x arg3 harg3 arg4 harg4 x1 x2)]
  exact funext fun y => canon_x arg3 harg3 arg4 harg4 x1 x2 y

end Cert.KernelIdeal.Hand

end
-- ==== Proof.Track.lean ====
/- The pipeline's proof data: what the body carries from point to point, and the body's obligation. The block of scales is read back
   and rewritten two lanes at a time, so what the body leaves there is stated as a relation to what it found. -/
module

public import proofs.«01_k».proof.Proof.Outs
public import Idealize.ShloMosaic.Lib.Pipeline.ValueKit.Geometry

@[expose] public section

set_option maxRecDepth 16384

noncomputable section

namespace Cert.KernelIdeal.Hand

open Cert.KernelIdeal.Gen Cert.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point computes -/

/-- The widened activations of a point's row block. -/
def xbAt (c : Dev nD) (t : Fin cfg0.N) : Vec F S1024x3584 .bf16 := XB (iblk m c 1 t) (iblk m c 2 t)
/-- The product of a point. -/
def yAt (c : Dev nD) (t : Fin cfg0.N) : FVec F S1024x512 .f32 := yB (xbAt m c t) (WB (nI (grid0.coords t)) (iblk m c 0 t) (iblk m c 3 t))
/-- The codes of a point. -/
def codesAt (c : Dev nD) (t : Fin cfg0.N) : Vec F S1024x256 .fp8e4m3 := codesB (yAt m c t)
/-- The block of scales after a point that found `Y` in it. -/
def scalesAt (c : Dev nD) (t : Fin cfg0.N) (Y : Vec F S1024x74 .f32) : Vec F S1024x74 .f32 := scalesB (yAt m c t) (nI (grid0.coords t)) Y

/-! ## The blocks at coordinates -/

theorem idx0_0 : ∀ t : Fin cfg0.N, win0_0.index t = ![0, 0] := by decide +kernel
theorem idx0_1 : ∀ t : Fin cfg0.N, win0_1.index t = ![t.val / 37, 0] := by decide +kernel
theorem idx0_2 : ∀ t : Fin cfg0.N, win0_2.index t = ![t.val / 37, 0] := by decide +kernel
theorem idx0_3 : ∀ t : Fin cfg0.N, win0_3.index t = ![0, t.val % 37] := by decide +kernel
theorem idx0_4 : ∀ t : Fin cfg0.N, win0_4.index t = ![t.val / 37, t.val % 37] := by decide +kernel
theorem idx0_5 : ∀ t : Fin cfg0.N, win0_5.index t = ![t.val / 37, 0] := by decide +kernel
theorem nI_coords : ∀ t : Fin cfg0.N, (nI (grid0.coords t)).val = t.val % 37 := by decide +kernel

theorem tlt (t : Fin cfg0.N) : t.val < 222 := lt_of_lt_of_eq t.isLt (show cfg0.N = 222 from N_0)

/-- The row of the array under row `r` of a point's row block. -/
def rowAt (t : Fin cfg0.N) (r : Fin 1024) : Fin 6144 := ⟨t.val / 37 * 1024 + r.val, by have := tlt t; omega⟩

theorem iblk0_at (c : Dev nD) (t : Fin cfg0.N) (y : S28x148.Idx) : iblk m c 0 t y = V m c main_arg3 y := by
  blk_simp [iblk]
  refine congrArg (V m c main_arg3) ?_
  funext a; apply Fin.ext; fin_cases a
  · blk_simp [idx0_0]
  · blk_simp [idx0_0]
theorem iblk1_at (c : Dev nD) (t : Fin cfg0.N) (y : S1024x3584.Idx) :
    iblk m c 1 t y = V m c main_v0 (ix2 (rowAt t (y 0)) (y 1 : Fin 3584)) := by
  blk_simp [iblk]
  refine congrArg (V m c main_v0) ?_
  funext a; apply Fin.ext; fin_cases a
  · blk_simp [idx0_1]; rfl
  · blk_simp [idx0_1]; rfl
theorem iblk2_at (c : Dev nD) (t : Fin cfg0.N) (y : S1024x28.Idx) :
    iblk m c 2 t y = V m c main_v1 (ix2 (rowAt t (y 0)) (y 1 : Fin 28)) := by
  blk_simp [iblk]
  refine congrArg (V m c main_v1) ?_
  funext a; apply Fin.ext; fin_cases a
  · blk_simp [idx0_2]; rfl
  · blk_simp [idx0_2]; rfl
theorem iblk3_at (c : Dev nD) (t : Fin cfg0.N) (y : S3584x512.Idx) :
    iblk m c 3 t y = V m c main_arg2 (ix2 (y 0 : Fin 3584) (⟨t.val % 37 * 512 + (y 1).val, by have : (y 1).val < 512 := (y 1).isLt; omega⟩ : Fin 18944)) := by
  blk_simp [iblk]
  refine congrArg (V m c main_arg2) ?_
  funext a; apply Fin.ext; fin_cases a
  · blk_simp [idx0_3]; rfl
  · blk_simp [idx0_3]; rfl

/-- Within a row block the activations do not move. -/
theorem xbAt_pred (c : Dev nD) (t t' : Fin cfg0.N) (h : ¬t.val % 37 = 0) (h' : t'.val = t.val - 1) : xbAt m c t' = xbAt m c t := by
  have e : rowAt t' = rowAt t := funext fun r => Fin.ext (by show t'.val / 37 * 1024 + r.val = t.val / 37 * 1024 + r.val; omega)
  have e1 : (iblk m c 1 t' : Vec F S1024x3584 .fp8e4m3) = iblk m c 1 t := funext fun (y : S1024x3584.Idx) => by
    have h1 := iblk1_at m c t' y
    rw [e] at h1
    exact h1.trans (iblk1_at m c t y).symm
  have e2 : (iblk m c 2 t' : Vec F S1024x28 .f32) = iblk m c 2 t := funext fun (y : S1024x28.Idx) => by
    have h1 := iblk2_at m c t' y
    rw [e] at h1
    exact h1.trans (iblk2_at m c t y).symm
  unfold xbAt; rw [e1, e2]

/-! ## The carried scratch -/

/-- The invariant before point `n`: the scratch at anything before the first point, afterwards the widened activations of the point
    before in their scratch, the widened weights' scratch at anything, and the generator register at some state. -/
def PhiS (c : Dev nD) : (n : ℕ) → n ≤ cfg0.N → sProp 𝕄
  | 0, _ => Pipeline.ΦA spec0 c
  | n + 1, hn => iprop(iprop(owns (c : Thread nD τ) scM0_0 fullShare (xbAt m c ⟨n, hn⟩) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (xbAt m c ⟨n, hn⟩) ∗ (∃ d, owns (c : Thread nD τ) scM0_1 fullShare d)) ∗ (∃ r, prngReg c r)) := rfl
theorem PhiS_pos (c : Dev nD) (n : ℕ) (h : n ≤ cfg0.N) (hz : n ≠ 0) :
    PhiS m c n h = iprop(iprop(owns (c : Thread nD τ) scM0_0 fullShare (xbAt m c ⟨n - 1, by omega⟩) ∗ (∃ d, owns (c : Thread nD τ) scM0_1 fullShare d)) ∗ (∃ r, prngReg c r)) := by
  cases n with
  | zero => exact absurd rfl hz
  | succ n => rfl

/-! ## The pipeline's proof data -/

/-- The exact part: each input's buffer at its block and the codes' at the point's; the scales' unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesAt m c t
    | ⟨5, _⟩ => fun _ => Classical.arbitrary _
  Φ t := PhiS m c t.val (Nat.le_of_lt_succ t.isLt)
  q _ := fullShare
  owed _ := 0

/-- The relation of the scales' window. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => none
  | ⟨5, _⟩ => some fun t Y X => X = scalesAt m c t Y

/-- The proof data. -/
def rdat (c : Dev nD) : RDat τ (Elt F) Unit ℕ (UR sig nD τ) ℕ cfg0 c := (dats m 0 c).toR.override (ovr m c)

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = codesAt m c t := by dsimp only [dats]

/-- An input's staging buffer holds its block at every point. -/
theorem finds0_0 (c : Dev nD) (t : Fin cfg0.N) (X) (h : (rdat m c).Finds 0 t X) : X = iblk m c 0 t := by
  obtain ⟨d, rfl⟩ := (dats m 0 c).toR_finds 0 t X ((RDat.override_finds _ (ovr := ovr m c) (w := (0 : Fin 6)) rfl t X).1 h)
  exact before0_0_of m (dats m 0 c) (A_eq m c 0) (after0_0 m c) t d
theorem finds0_1 (c : Dev nD) (t : Fin cfg0.N) (X) (h : (rdat m c).Finds 1 t X) : X = iblk m c 1 t := by
  obtain ⟨d, rfl⟩ := (dats m 0 c).toR_finds 1 t X ((RDat.override_finds _ (ovr := ovr m c) (w := (1 : Fin 6)) rfl t X).1 h)
  exact before0_1_of m (dats m 0 c) (A_eq m c 1) (after0_1 m c) t d
theorem finds0_2 (c : Dev nD) (t : Fin cfg0.N) (X) (h : (rdat m c).Finds 2 t X) : X = iblk m c 2 t := by
  obtain ⟨d, rfl⟩ := (dats m 0 c).toR_finds 2 t X ((RDat.override_finds _ (ovr := ovr m c) (w := (2 : Fin 6)) rfl t X).1 h)
  exact before0_2_of m (dats m 0 c) (A_eq m c 2) (after0_2 m c) t d
theorem finds0_3 (c : Dev nD) (t : Fin cfg0.N) (X) (h : (rdat m c).Finds 3 t X) : X = iblk m c 3 t := by
  obtain ⟨d, rfl⟩ := (dats m 0 c).toR_finds 3 t X ((RDat.override_finds _ (ovr := ovr m c) (w := (3 : Fin 6)) rfl t X).1 h)
  exact before0_3_of m (dats m 0 c) (A_eq m c 3) (after0_3 m c) t d

/-- What the body leaves, window by window. -/
theorem rafter0_0 (c : Dev nD) (t : Fin cfg0.N) (Y X) : (rdat m c).after 0 t Y X ↔ X = iblk m c 0 t := Iff.rfl
theorem rafter0_1 (c : Dev nD) (t : Fin cfg0.N) (Y X) : (rdat m c).after 1 t Y X ↔ X = iblk m c 1 t := Iff.rfl
theorem rafter0_2 (c : Dev nD) (t : Fin cfg0.N) (Y X) : (rdat m c).after 2 t Y X ↔ X = iblk m c 2 t := Iff.rfl
theorem rafter0_3 (c : Dev nD) (t : Fin cfg0.N) (Y X) : (rdat m c).after 3 t Y X ↔ X = iblk m c 3 t := Iff.rfl
theorem rafter0_4 (c : Dev nD) (t : Fin cfg0.N) (Y X) : (rdat m c).after 4 t Y X ↔ X = codesAt m c t := Iff.rfl
theorem rafter0_5 (c : Dev nD) (t : Fin cfg0.N) (Y X) : (rdat m c).after 5 t Y X ↔ X = scalesAt m c t Y := Iff.rfl

/-! ## The body obligation -/

/-- What the body is called with at point `t`, where the last two windows' buffers hold `Y4` and `Y5`, -/
def bodyPre (c : Dev nD) (t : Fin cfg0.N) (Y4 : Vec F S1024x256 .fp8e4m3) (Y5 : Vec F S1024x74 .f32) : sProp 𝕄 :=
  iprop((dats m 0 c).Φ t.castSucc ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare Y4
    ∗ owns (c : Thread nD τ) (ms0_5 t) fullShare Y5)
/-- and what it returns. -/
def bodyPost (c : Dev nD) (t : Fin cfg0.N) (Y5 : Vec F S1024x74 .f32) : sProp 𝕄 :=
  iprop((dats m 0 c).Φ t.succ ∗ (dats m 0 c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (codesAt m c t)
    ∗ owns (c : Thread nD τ) (ms0_5 t) fullShare (scalesAt m c t Y5))

set_option maxHeartbeats 6400000 in
/-- The body at any point, by the case of its branch. -/
theorem sound_body (c : Dev nD) (t : Fin cfg0.N) (Y4 : Vec F S1024x256 .fp8e4m3) (Y5 : Vec F S1024x74 .f32) :
    bodyPre m c t Y4 Y5 ⊢ wp frame (wpE (defs₀ (F := F)) Variants.none c none) Set.univ (bodyAt0 t) (fun _ => bodyPost m c t Y5) := by
  unfold bodyPre bodyPost bodyAt0
  rw [show (dats m 0 c).owesAt () t.succ = (dats m 0 c).owesAt () t.castSucc from rfl,
    show (dats m 0 c).Φ t.succ = PhiS m c (t.val + 1) t.isLt from rfl, PhiS_succ]
  by_cases h0 : t.val % 37 = 0
  · by_cases hz : t.val = 0
    · rw [PhiS_castSucc m c t, PhiS_zero m c _ _ hz, PhiA0_eq]
      iintro ⟨⟨⟨HS0, HS1⟩, Hg⟩, Ho, H0, H1, H2, H3, H4, H5⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) Y5).2.2.2.2 Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      iintro ⟨H0, H1, H2, H3, ⟨%e4, H4⟩, ⟨%e5, H5⟩, ⟨%es0, HS0⟩, ⟨%fT1, HS1⟩⟩
      isplitl [HS0 HS1 Hg]
      · isplitl [HS0 HS1]
        · isplitl [HS0]
          · unfold owns; iexists _; isplitr
            swap; · iexact HS0
            ipureintro; exact read_xb _ _ c (ms0_1 t) (hs0_1 t) (ms0_2 t) (hs0_2 t) _ _
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact (congrArg (fun L => (ms0_4 t).view.read (Elt F) ((ms0_4 t).view.writes (Elt F) e4 L)) (L4_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) Y5 ((hcond0_0 t).mpr h0))).trans (read_codes _ _ _ _)
      unfold owns; iexists _; isplitr
      swap; · iexact H5
      ipureintro; exact (congrArg (fun L => (ms0_5 t).view.read (Elt F) ((ms0_5 t).view.writes (Elt F) e5 L)) (L5_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) Y5 ((hcond0_0 t).mpr h0))).trans (read_scales _ _ _ _ _ _)
    · rw [PhiS_castSucc m c t, PhiS_pos m c _ _ hz]
      iintro ⟨⟨⟨HS0, HS1⟩, Hg⟩, Ho, H0, H1, H2, H3, H4, H5⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) Y5).2.2.2.2 Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexists _; iexact HS0
      isplitl [HS1]; · iexact HS1
      iintro ⟨H0, H1, H2, H3, ⟨%e4, H4⟩, ⟨%e5, H5⟩, ⟨%es0, HS0⟩, ⟨%fT1, HS1⟩⟩
      isplitl [HS0 HS1 Hg]
      · isplitl [HS0 HS1]
        · isplitl [HS0]
          · unfold owns; iexists _; isplitr
            swap; · iexact HS0
            ipureintro; exact read_xb _ _ c (ms0_1 t) (hs0_1 t) (ms0_2 t) (hs0_2 t) _ _
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact (congrArg (fun L => (ms0_4 t).view.read (Elt F) ((ms0_4 t).view.writes (Elt F) e4 L)) (L4_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) Y5 ((hcond0_0 t).mpr h0))).trans (read_codes _ _ _ _)
      unfold owns; iexists _; isplitr
      swap; · iexact H5
      ipureintro; exact (congrArg (fun L => (ms0_5 t).view.read (Elt F) ((ms0_5 t).view.writes (Elt F) e5 L)) (L5_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) Y5 ((hcond0_0 t).mpr h0))).trans (read_scales _ _ _ _ _ _)
  · have hz : t.val ≠ 0 := fun h => h0 (by omega)
    rw [PhiS_castSucc m c t, PhiS_pos m c _ _ hz, xbAt_pred m c t ⟨t.val - 1, by have := tlt t; omega⟩ h0 rfl]
    iintro ⟨⟨⟨HS0, HS1⟩, Hg⟩, Ho, H0, H1, H2, H3, H4, H5⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) Y5 (xbAt m c t)).2.2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    isplitl [HS1]; · iexact HS1
    iintro ⟨H0, H1, H2, H3, ⟨%e4, H4⟩, ⟨%e5, H5⟩, HS0, ⟨%fT1, HS1⟩⟩
    isplitl [HS0 HS1 Hg]
    · isplitl [HS0 HS1]
      · isplitl [HS0]
        · iexact HS0
        iexists _; unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact (congrArg (fun L => (ms0_4 t).view.read (Elt F) ((ms0_4 t).view.writes (Elt F) e4 L)) (L4_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) Y5 (xbAt m c t) (fun h => h0 ((hcond0_0 t).mp h)))).trans (read_codes _ _ _ _)
    unfold owns; iexists _; isplitr
    swap; · iexact H5
    ipureintro; exact (congrArg (fun L => (ms0_5 t).view.read (Elt F) ((ms0_5 t).view.writes (Elt F) e5 L)) (L5_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) Y5 (xbAt m c t) (fun h => h0 ((hcond0_0 t).mp h)))).trans (read_scales _ _ _ _ _ _)

theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : (rdat m c).BodyObligation (defs₀ (F := F)) Variants.none () Set.univ := fun t Y hY => by
  have e0 := finds0_0 m c t _ (hY 0)
  have e1 := finds0_1 m c t _ (hY 1)
  have e2 := finds0_2 m c t _ (hY 2)
  have e3 := finds0_3 m c t _ (hY 3)
  rw [bigSep_W0, bigSep_W0, defs₀_row, e0, e1, e2, e3]
  rw [show (rdat m c).Φ t.succ = (dats m 0 c).Φ t.succ from rfl, show (rdat m c).owesAt () t.succ = (dats m 0 c).owesAt () t.succ from rfl]
  refine triple_restated (sound_body m c t (Y 4) (Y 5)) rfl .rfl fun _ => ?_
  unfold bodyPost
  iintro ⟨HΦ, Ho, H0, H1, H2, H3, H4, H5⟩
  isplitl [HΦ]; · iexact HΦ
  isplitl [Ho]; · iexact Ho
  isplitl [H0]; · iexists _; isplitr; swap; · iexact H0
                  ipureintro; exact rfl
  isplitl [H1]; · iexists _; isplitr; swap; · iexact H1
                  ipureintro; exact rfl
  isplitl [H2]; · iexists _; isplitr; swap; · iexact H2
                  ipureintro; exact rfl
  isplitl [H3]; · iexists _; isplitr; swap; · iexact H3
                  ipureintro; exact rfl
  isplitl [H4]; · iexists _; isplitr; swap; · iexact H4
                  ipureintro; exact rfl
  iexists _; isplitr; swap; · iexact H5
  ipureintro; exact rfl

theorem hin (c : Dev nD) : Pipeline.ΦA spec0 c ⊢ (rdat m c).Φ 0 := by
  rw [show (rdat m c).Φ 0 = PhiS m c 0 (Nat.zero_le _) from rfl, PhiS_zero m c 0 _ rfl]

theorem hout (c : Dev nD) : (rdat m c).Φ (Fin.last cfg0.N) ⊢ Pipeline.ΦA spec0 c := by
  rw [show (rdat m c).Φ (Fin.last cfg0.N) = PhiS m c cfg0.N (le_refl _) from rfl,
    PhiS_pos m c _ _ (by have : cfg0.N = 222 := N_0; omega), PhiA0_eq]
  iintro ⟨⟨HS0, HS1⟩, Hg⟩
  isplitl [HS0 HS1]
  · isplitl [HS0]
    · iexists _; iexact HS0
    iexact HS1
  iexact Hg

/-! ## The run -/

set_option backward.isDefEq.respectTransparency.types false in
/-- The launch: every array at what the relational proof data allow, and every semaphore counter at zero. -/
theorem run_main_quiescent : θ_run defs (onTc (τ := τ) (main (F := F))) (s₀ m ρ) (fun r => (Pipeline.RDat.FramePost cfg0 (rdat m) (V m)) r ∧ r.2.sem = fun _ => 0) :=
  Pipeline.RDat.θ_run_frame_track (Q' := _) cfgs (0 : Fin 1) launch0 defs₀ Variants.none (rdat m) m ρ main
    (hbody := body_obligation m) (hshare := fun c => (dats m 0 c).share_full fun _ => rfl)
    (howed := fun _ _ => rfl) (V := V m) (hmain := hmain m Variants.none) (hA := A_eq m) (hin := hin m) (hout := hout m)

/-- THE FRAME: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 3 rfl).trans ((A_eq m c 3).trans (V_main_arg2 m c)),
      (Pipeline.RDat.FramePost.arr_in h.1 c 0 rfl).trans ((A_eq m c 0).trans (V_main_arg3 m c))⟩, h.2⟩) (run_main_quiescent m ρ)

end Cert.KernelIdeal.Hand

end
-- ==== Proof.Values.lean ====
/- The two arrays the kernel leaves, each as one function of its index: the block a point leaves in the scales is followed through the
   37 points of a row block. -/
module

public import proofs.«01_k».proof.Proof.Track
public import Idealize.ShloMosaic.Lib.Pipeline.ArrRel

@[expose] public section

set_option maxRecDepth 16384

noncomputable section

namespace Cert.KernelIdeal.Hand

open Cert.KernelIdeal.Gen Cert.Spec
open Idealize.ShloMosaic Idealize.ShloMosaic.TcCoe Idealize.ShloMosaic.Tactic Idealize.ShloMosaic.ValueIdx
open Idealize.SL.Sem
open Idealize.ShloMosaic.Pipeline (Dat RDat Cfg Window cellOf)

variable {F : FTy → Type} [FloatOps F]
variable (m : (ℓ : Loc nD τ sig) → Buf (Elt F) ℓ) (ρ : Dev nD → PrngReg)

/-- The point of row block `i` and column block `n`. -/
def pt (i : Fin 6) (n : Fin 37) : Fin cfg0.N := ⟨i.val * 37 + n.val, by have : cfg0.N = 222 := N_0; omega⟩

theorem pt_val (i : Fin 6) (n : Fin 37) : (pt i n).val = i.val * 37 + n.val := rfl

/-- Every point is one of these. -/
theorem eq_pt (t : Fin cfg0.N) : t = pt ⟨t.val / 37, by have := tlt t; omega⟩ ⟨t.val % 37, Nat.mod_lt _ (by omega)⟩ :=
  Fin.ext (by show t.val = t.val / 37 * 37 + t.val % 37; omega)

/-- The scale of row `r` of row block `i`, lane `l`. -/
def scAt (c : Dev nD) (i : Fin 6) (r : Fin 1024) (l : Fin 74) : F .f32 :=
  sclS (vB (hB (yAt m c (pt i ⟨l.val / 2, by omega⟩)) ⟨l.val % 2, Nat.mod_lt _ (by omega)⟩) r)

theorem scAt_of (c : Dev nD) (i : Fin 6) (r : Fin 1024) (l : Fin 74) (n : Fin 37) (p : Fin 2) (h : l.val = 2 * n.val + p.val) :
    scAt m c i r l = sclS (vB (hB (yAt m c (pt i n)) p) r) := by
  unfold scAt
  rw [show (⟨l.val / 2, by omega⟩ : Fin 37) = n from Fin.ext (by show l.val / 2 = _; omega),
    show (⟨l.val % 2, Nat.mod_lt _ (by omega)⟩ : Fin 2) = p from Fin.ext (by show l.val % 2 = _; omega)]

/-- After column block `n` the first `2 (n + 1)` lanes of the block of scales are final. -/
theorem leaves5 (c : Dev nD) (i : Fin 6) : ∀ (n : ℕ) (hn : n < 37) (X : Vec F S1024x74 .f32), (rdat m c).Leaves 5 (pt i ⟨n, hn⟩) X →
    ∀ (r : Fin 1024) (l : Fin 74), l.val < 2 * (n + 1) → X (ix2 r l) = scAt m c i r l := by
  intro n
  induction n with
  | zero =>
    rintro hn X ⟨Y, -, hX⟩ r l hl
    rw [(rafter0_5 m c _ Y X).1 hX]
    have hnI : nI (grid0.coords (pt i ⟨0, hn⟩)) = ⟨0, hn⟩ := Fin.ext (by rw [nI_coords, pt_val]; show (i.val * 37 + 0) % 37 = 0; omega)
    unfold scalesAt scalesB
    rw [hnI]
    show (if l.val = 2 * 0 + 1 then _ else if l.val = 2 * 0 then _ else _) = _
    split
    · exact (scAt_of m c i r l ⟨0, hn⟩ 1 (by assumption)).symm
    · rw [if_pos (by omega)]
      exact (scAt_of m c i r l ⟨0, hn⟩ 0 (by show l.val = 2 * 0 + 0; omega)).symm
  | succ n ih =>
    rintro hn X ⟨Y, hY, hX⟩ r l hl
    rw [(rafter0_5 m c _ Y X).1 hX]
    have hnI : nI (grid0.coords (pt i ⟨n + 1, hn⟩)) = ⟨n + 1, hn⟩ := Fin.ext (by rw [nI_coords, pt_val]; show (i.val * 37 + (n + 1)) % 37 = n + 1; omega)
    unfold scalesAt scalesB
    rw [hnI]
    show (if l.val = 2 * (n + 1) + 1 then _ else if l.val = 2 * (n + 1) then _ else Y (ix2 r l)) = _
    split
    · exact (scAt_of m c i r l ⟨n + 1, hn⟩ 1 (by assumption)).symm
    · split
      · exact (scAt_of m c i r l ⟨n + 1, hn⟩ 0 (by assumption)).symm
      · have hp := ((rdat m c).finds_of_pos ((cfg0.win 5).fetch_out rfl _) (by rw [pt_val]; show i.val * 37 + (n + 1) ≠ 0; omega) Y).1 hY
        have e : (⟨(pt i ⟨n + 1, hn⟩).val - 1, Nat.lt_of_le_of_lt (Nat.sub_le _ _) (pt i ⟨n + 1, hn⟩).isLt⟩ : Fin cfg0.N) = pt i ⟨n, by omega⟩ :=
          Fin.ext (by show i.val * 37 + (n + 1) - 1 = i.val * 37 + n; omega)
        rw [e] at hp
        rcases hp with hp | hp
        · have := (flush0_5 _).1 hp
          rw [pt_val] at this
          have : (i.val * 37 + n) % 37 = 36 := this
          omega
        · exact ih (by omega) Y hp r l (by omega)

/-- What the last point of a row block leaves in the block of scales. -/
theorem leaves5_last (c : Dev nD) (t : Fin cfg0.N) (ht : t.val % 37 = 36) (X : Vec F S1024x74 .f32) (hX : (rdat m c).Leaves 5 t X)
    (r : Fin 1024) (l : Fin 74) : X (ix2 r l) = scAt m c ⟨t.val / 37, by have := tlt t; omega⟩ r l := by
  have e : t = pt ⟨t.val / 37, by have := tlt t; omega⟩ ⟨36, by omega⟩ := Fin.ext (by show t.val = t.val / 37 * 37 + 36; omega)
  generalize (⟨t.val / 37, by have := tlt t; omega⟩ : Fin 6) = i at e ⊢
  rw [e] at hX
  exact leaves5 m c i 36 (by omega) X hX r l (by omega)

/-! ## The arrays -/

/-- The codes at an index of the array … -/
def G4 (c : Dev nD) : Vec F S6144x9472 .fp8e4m3 := fun z =>
  codesAt m c (pt ⟨(z 0).val / 1024, Nat.div_lt_of_lt_mul (z 0).isLt⟩ ⟨(z 1).val / 256, Nat.div_lt_of_lt_mul (z 1).isLt⟩)
    (ix2 (⟨(z 0).val % 1024, Nat.mod_lt _ (by omega)⟩ : Fin 1024) (⟨(z 1).val % 256, Nat.mod_lt _ (by omega)⟩ : Fin 256))
/-- … and the scales. -/
def G5 (c : Dev nD) : Vec F S6144x74 .f32 := fun z =>
  scAt m c ⟨(z 0).val / 1024, Nat.div_lt_of_lt_mul (z 0).isLt⟩ ⟨(z 0).val % 1024, Nat.mod_lt _ (by omega)⟩ (z 1 : Fin 74)

theorem G4_at (c : Dev nD) (t : Fin cfg0.N) (y : S1024x256.Idx) (z : S6144x9472.Idx) (h0 : (z 0).val = t.val / 37 * 1024 + (y 0).val)
    (h1 : (z 1).val = t.val % 37 * 256 + (y 1).val) : G4 m c z = codesAt m c t y := by
  have hy0 : (y 0).val < 1024 := (y 0).isLt
  have hy1 : (y 1).val < 256 := (y 1).isLt
  unfold G4
  have e : pt ⟨(z 0).val / 1024, Nat.div_lt_of_lt_mul (z 0).isLt⟩ ⟨(z 1).val / 256, Nat.div_lt_of_lt_mul (z 1).isLt⟩ = t :=
    Fin.ext (by show (z 0).val / 1024 * 37 + (z 1).val / 256 = t.val; omega)
  rw [e]
  refine congrArg (codesAt m c t) ?_
  funext a; apply Fin.ext; fin_cases a
  · show (z 0).val % 1024 = (y 0).val; omega
  · show (z 1).val % 256 = (y 1).val; omega

theorem G5_at (c : Dev nD) (t : Fin cfg0.N) (y : S1024x74.Idx) (z : S6144x74.Idx) (h0 : (z 0).val = t.val / 37 * 1024 + (y 0).val)
    (h1 : (z 1).val = (y 1).val) : G5 m c z = scAt m c ⟨t.val / 37, by have := tlt t; omega⟩ (y 0) (y 1) := by
  have hy0 : (y 0).val < 1024 := (y 0).isLt
  unfold G5
  rw [show (⟨(z 0).val / 1024, Nat.div_lt_of_lt_mul (z 0).isLt⟩ : Fin 6) = ⟨t.val / 37, by have := tlt t; omega⟩ from
      Fin.ext (by show (z 0).val / 1024 = t.val / 37; omega),
    show (⟨(z 0).val % 1024, Nat.mod_lt _ (by omega)⟩ : Fin 1024) = y 0 from Fin.ext (by show (z 0).val % 1024 = (y 0).val; omega),
    show (z 1 : Fin 74) = y 1 from Fin.ext h1]

/-- The array of codes after the run. -/
theorem final4 (c : Dev nD) (after) (h : ∀ u : Fin cfg0.N, (cfg0.win 4).flush u = true → (rdat m c).Leaves 4 u (after 4 u)) :
    ((rdat m c).withAfter after).arrAt 4 cfg0.N = G4 m c := by
  refine ((rdat m c).withAfter after).arrAt_eq_of_covers 4 _ (by decide +kernel) fun t hf (y : S1024x256.Idx) => ?_
  obtain ⟨Y, -, hX⟩ := h t hf
  have e := (rafter0_4 m c t Y _).1 hX
  have g := (G4_at m c t y (((cfg0.win 4).blk t).view.emb y) (by blk_simp [idx0_4]) (by blk_simp [idx0_4])).symm
  exact (congrFun e y).trans g

/-- The array of scales after the run. -/
theorem final5 (c : Dev nD) (after) (h : ∀ u : Fin cfg0.N, (cfg0.win 5).flush u = true → (rdat m c).Leaves 5 u (after 5 u)) :
    ((rdat m c).withAfter after).arrAt 5 cfg0.N = G5 m c := by
  refine ((rdat m c).withAfter after).arrAt_eq_of_covers 5 _ (by decide +kernel) fun t hf (y : S1024x74.Idx) => ?_
  have hX := h t hf
  have ht := (flush0_5 t).1 hf
  have hl := leaves5_last m c t ht (after 5 t) hX (y 0) (y 1)
  have g := (G5_at m c t y (((cfg0.win 5).blk t).view.emb y) (by blk_simp [idx0_5]) (by blk_simp [idx0_5])).symm
  have ey : (ix2 (y 0 : Fin 1024) (y 1 : Fin 74) : S1024x74.Idx) = y := by
    funext a; apply Fin.ext; fin_cases a <;> rfl
  exact (congrArg (after 5 t) ey.symm).trans (hl.trans g)

/-- The run of the kernel, its arrays named. -/
theorem run_values : θ_run defs (onTc (τ := τ) (main (F := F))) ⟨m, fun _ => 0, ρ⟩ (fun r => ∀ c : Dev nD,
      r.2.mem ((c.tc : Thread nD τ).loc main_v2_0) = G4 m c
      ∧ r.2.mem ((c.tc : Thread nD τ).loc main_v2_1) = G5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨after, hL, hA⟩ := Pipeline.RDat.FramePost.exists_exact h.1 c
    exact ⟨(hA 4).trans (final4 m c after (hL 4)), (hA 5).trans (final5 m c after (hL 5)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 3 rfl).trans ((A_eq m c 3).trans (V_main_arg2 m c)),
      (Pipeline.RDat.FramePost.arr_in h.1 c 0 rfl).trans ((A_eq m c 0).trans (V_main_arg3 m c))⟩) (run_main_quiescent m ρ)

end Cert.KernelIdeal.Hand

end
-- ==== Proof.Quant.lean ====
/- Over the extended reals the kernel's scale and its inverse are the reference's `2 ^ e` and `2 ^ -e`: the bisection finds
   `floor (log₂ v) + 127`. -/
module

public import proofs.«01_k».proof.Proof.Scalars
public import Idealize.ShloMosaic.Lib.ValueIdx

@[expose] public section

noncomputable section

namespace Cert.Spec

open Idealize.ShloMosaic

/-! ## Bits -/

theorem ofBool_eq_one (a : Bool) : BitVec.ofBool a = 1#1 ↔ a = true := by cases a <;> decide

theorem andi_ofBool (a b : Bool) : IntOp.andi (BitVec.ofBool a) (BitVec.ofBool b) = 1#1 ↔ a = true ∧ b = true := by
  cases a <;> cases b <;> decide

theorem ofInt_sub (a b : ℤ) : BitVec.ofInt 32 (a - b) = BitVec.ofInt 32 a - BitVec.ofInt 32 b := by
  apply BitVec.eq_of_toInt_eq; simp [BitVec.toInt_sub]

theorem shli_23 (x : BitVec 32) : IntOp.shli .vector x 23#32 = x <<< 23 := by
  unfold IntOp.shli; rw [if_pos (by decide)]; rfl

/-! ## The powers of two as bit patterns -/

/-- The fields of `k <<< 23`: no sign, the exponent field `k`, no fraction. -/
theorem fields_shift : ∀ k : Fin 255,
    ((BitVec.ofNat 32 k.val <<< 23).extractLsb' 31 1 == 1#1) = false ∧ ((BitVec.ofNat 32 k.val <<< 23).extractLsb' 23 8).toNat = k.val
      ∧ ((BitVec.ofNat 32 k.val <<< 23).extractLsb' 0 23).toNat = 0 := by
  decide +kernel

/-- The pattern `k <<< 23` denotes `2 ^ (k - 127)`, for a normal exponent field `k`. -/
theorem ofBits_shift (k : ℕ) (h1 : 1 ≤ k) (h2 : k ≤ 254) :
    Ideal.ofBits .f32 (BitVec.ofNat 32 k <<< 23) = (((2 : ℝ) ^ ((k : ℤ) - 127) : ℝ) : EReal) := by
  obtain ⟨a, b, c⟩ := fields_shift ⟨k, by omega⟩
  simp only [Ideal.ofBits, Ideal.ieee, Nat.reduceAdd]
  rw [a, b, c]
  rw [if_neg (by simp; omega), if_neg (by simp; omega)]
  have h23 : (8388608 : ℝ) = 2 ^ (23 : ℤ) := by norm_num
  norm_num
  have hk : (23 : ℤ) + ((k : ℤ) - 127 - 23) = (k : ℤ) - 127 := by ring
  rw [← EReal.coe_mul, h23, ← zpow_add₀ two_ne_zero, hk]

theorem ofBits_one : Ideal.ofBits .f32 0x3F800000#32 = 1 := by
  have := ofBits_shift 127 (by norm_num) (by norm_num)
  simpa using this

theorem ofBits_two : Ideal.ofBits .f32 0x40000000#32 = ((2 : ℝ) : EReal) := by
  have := ofBits_shift 128 (by norm_num) (by norm_num)
  simpa using this

theorem ofBits_tiny : Ideal.ofBits .f32 0x00800000#32 = (((2 : ℝ) ^ (-126 : ℤ) : ℝ) : EReal) := by
  have := ofBits_shift 1 (by norm_num) (by norm_num)
  simpa using this

theorem ofBits_zero : Ideal.ofBits .f32 0x00000000#32 = 0 := by
  simp [Ideal.ofBits, Ideal.ieee]

theorem ofBits_inf : Ideal.ofBits .f32 0x7F800000#32 = ⊤ := by
  simp [Ideal.ofBits, Ideal.ieee]

theorem ofBits_126 : Ideal.ofBits .f32 0x42FC0000#32 = ((126 : ℝ) : EReal) := by
  simp [Ideal.ofBits, Ideal.ieee]
  rw [← EReal.coe_mul]; norm_num

/-! ## The bisection -/

/-- `k` is a field within 252 whose power of two is at most `v`. -/
def Below (v : EReal) (k : ℕ) : Prop := k ≤ 252 ∧ (((2 : ℝ) ^ ((k : ℤ) - 127) : ℝ) : EReal) ≤ v

/-- The bisection's invariant: `f` is zero or below, and `f + b` is not. -/
def Inv (v : EReal) (f : BitVec 32) (b : ℕ) : Prop :=
  f.toNat ≤ 252 ∧ (f.toNat = 0 ∨ Below v f.toNat) ∧ ¬ Below v (f.toNat + b)

/-- A step with `b` takes the invariant from `2 b` to `b`. -/
theorem inv_step (v : EReal) (f : BitVec 32) (b : ℕ) (hb : 1 ≤ b) (hb' : b ≤ 128) (h : Inv v f (2 * b)) :
    Inv v (stepS (F := Ideal) v f (BitVec.ofNat 32 b)) b := by
  classical
  obtain ⟨h0, h1, h2⟩ := h
  have hup : (f + BitVec.ofNat 32 b).toNat = f.toNat + b := by
    rw [BitVec.toNat_add, BitVec.toNat_ofNat]; omega
  have hf : f + BitVec.ofNat 32 b = BitVec.ofNat 32 (f.toNat + b) := by
    apply BitVec.eq_of_toNat_eq; rw [hup, BitVec.toNat_ofNat]; omega
  have hcond : (IntOp.andi (IntOp.cmpi .sle (IntOp.addi f (BitVec.ofNat 32 b)) 252#32)
      (Ideal.cmp .oge v (Ideal.ofBits .f32 (IntOp.shli .vector (IntOp.addi f (BitVec.ofNat 32 b)) 23#32))) = 1#1)
      ↔ Below v (f.toNat + b) := by
    have e1 : IntOp.cmpi .sle (IntOp.addi f (BitVec.ofNat 32 b)) 252#32 = BitVec.ofBool (decide (f.toNat + b ≤ 252)) := by
      simp only [IntOp.cmpi, IntOp.addi, BitVec.sle_eq_decide]
      congr 1
      rw [BitVec.toInt_eq_toNat_of_lt (by rw [hup]; omega), hup]
      simp; omega
    by_cases hle : f.toNat + b ≤ 252
    · have e2 : Ideal.ofBits .f32 (IntOp.shli .vector (IntOp.addi f (BitVec.ofNat 32 b)) 23#32)
          = (((2 : ℝ) ^ (((f.toNat + b : ℕ) : ℤ) - 127) : ℝ) : EReal) := by
        rw [← ofBits_shift _ (by omega) (by omega)]
        rw [shli_23, IntOp.addi, hf]
      rw [e1, e2, Ideal.cmp, andi_ofBool]
      simp only [decide_eq_true_eq]; rfl
    · rw [e1, Ideal.cmp, andi_ofBool]
      simp only [decide_eq_true_eq]
      exact ⟨fun h => absurd h.1 hle, fun h => absurd h.1 hle⟩
  have hs : stepS (F := Ideal) v f (BitVec.ofNat 32 b) = if Below v (f.toNat + b) then f + BitVec.ofNat 32 b else f := by
    unfold stepS Scalar.select
    by_cases hB : Below v (f.toNat + b)
    · rw [if_pos hB]; exact if_pos (hcond.2 hB)
    · rw [if_neg hB]; exact if_neg fun hc => hB (hcond.1 hc)
  rw [hs]
  by_cases hB : Below v (f.toNat + b)
  · rw [if_pos hB]
    refine ⟨by rw [hup]; exact hB.1, .inr (by rw [hup]; exact hB), ?_⟩
    rw [hup, Nat.add_assoc, ← two_mul]; exact h2
  · rw [if_neg hB]; exact ⟨h0, h1, hB⟩

/-- After the eight steps the field is the largest below. -/
theorem inv_fieldLo (v : EReal) : Inv v (fieldLo (F := Ideal) v) 1 := by
  have h0 : Inv v 0#32 (2 * 128) := ⟨by simp, .inl (by simp), fun h => by have := h.1; simp at this⟩
  have h1 := inv_step v _ 128 (by norm_num) (by norm_num) h0
  have h2 := inv_step v _ 64 (by norm_num) (by norm_num) h1
  have h3 := inv_step v _ 32 (by norm_num) (by norm_num) h2
  have h4 := inv_step v _ 16 (by norm_num) (by norm_num) h3
  have h5 := inv_step v _ 8 (by norm_num) (by norm_num) h4
  have h6 := inv_step v _ 4 (by norm_num) (by norm_num) h5
  have h7 := inv_step v _ 2 (by norm_num) (by norm_num) h6
  exact inv_step v _ 1 (by norm_num) (by norm_num) h7

/-! ## The exponent -/

/-- The reference's exponent at a real number at least the smallest normal. -/
theorem floor_log (r : ℝ) (K : ℕ) (hK : 1 ≤ K) (h : Below (r : EReal) K) (h' : ¬ Below (r : EReal) (K + 1)) (h252 : K ≤ 252) :
    min (Ideal.liftRound Int.floor (Ideal.div (Ideal.log (r : EReal)) (Ideal.log ((2 : ℝ) : EReal))) + 1) ((126 : ℝ) : EReal)
      = (((K : ℝ) - 126 : ℝ) : EReal) := by
  have hr : (2 : ℝ) ^ ((K : ℤ) - 127) ≤ r := EReal.coe_le_coe_iff.1 h.2
  have hr0 : 0 < r := lt_of_lt_of_le (zpow_pos two_pos _) hr
  have hl2 : 0 < Real.log 2 := Real.log_pos one_lt_two
  have hdiv : Ideal.div (Ideal.log (r : EReal)) (Ideal.log ((2 : ℝ) : EReal)) = (((Real.log r / Real.log 2) : ℝ) : EReal) := by
    have e1 : Ideal.log (r : EReal) = ((Real.log r : ℝ) : EReal) := if_neg (not_le.2 hr0)
    have e2 : Ideal.log ((2 : ℝ) : EReal) = ((Real.log 2 : ℝ) : EReal) := if_neg (not_le.2 two_pos)
    rw [e1, e2, Ideal.div, if_neg (by exact_mod_cast hl2.ne'), ← EReal.coe_inv, ← EReal.coe_mul]; rfl
  rw [hdiv]
  have hfl : Ideal.liftRound Int.floor (((Real.log r / Real.log 2) : ℝ) : EReal) = (((⌊(Real.log r / Real.log 2)⌋ : ℤ) : ℝ) : EReal) := rfl
  rw [hfl]
  have lo : (K : ℤ) - 127 ≤ ⌊(Real.log r / Real.log 2)⌋ := by
    rw [Int.le_floor, le_div_iff₀ hl2, ← Real.log_zpow]; exact Real.log_le_log (zpow_pos two_pos _) hr
  have hmin : min ((((⌊(Real.log r / Real.log 2)⌋ : ℤ) : ℝ) : EReal) + 1) ((126 : ℝ) : EReal)
      = ((min (⌊(Real.log r / Real.log 2)⌋ + 1) 126 : ℤ) : ℝ) := by
    rw [Int.cast_min, EReal.coe_strictMono.monotone.map_min]; push_cast; rfl
  rw [hmin]
  have : (min (⌊(Real.log r / Real.log 2)⌋ + 1) 126 : ℤ) = (K : ℤ) - 126 := by
    rcases Nat.lt_or_ge K 252 with hlt | hge
    · have hr' : r < (2 : ℝ) ^ ((K : ℤ) - 126) := by
        by_contra hc
        refine h' ⟨by omega, EReal.coe_le_coe_iff.2 ?_⟩
        have : ((K + 1 : ℕ) : ℤ) - 127 = (K : ℤ) - 126 := by push_cast; ring
        rw [this]; exact not_lt.1 hc
      have hi : ⌊(Real.log r / Real.log 2)⌋ < (K : ℤ) - 126 := by
        rw [Int.floor_lt, div_lt_iff₀ hl2, ← Real.log_zpow]; exact Real.log_lt_log hr0 hr'
      omega
    · omega
  rw [this]; push_cast; rfl

/-- The two exponents agree at every number that is not negative, and lie between -125 and 126. -/
theorem exponent_eq (v : EReal) : ∃ e : ℤ, -125 ≤ e ∧ e ≤ 126 ∧ eS (F := Ideal) v = BitVec.ofInt 32 e ∧ refE (F := Ideal) v = ((e : ℝ) : EReal) := by
  obtain ⟨h0, h1, h2⟩ := inv_fieldLo v
  have hinf : ∀ a b : BitVec 32, Scalar.select (Ideal.cmp .oeq v (Ideal.ofBits .f32 0x7F800000#32)) a b = if v = ⊤ then a else b := by
    intro a b; rw [ofBits_inf]; simp [Scalar.select, Ideal.cmp, ofBool_eq_one]
  have hfS : fieldS (F := Ideal) v = if v = ⊤ then 255#32 else fieldLo (F := Ideal) v := hinf _ _
  have hcond : ∀ a b : EReal, Scalar.select (IntOp.ori (Ideal.cmp .olt v (Ideal.ofBits .f32 0x00800000#32))
      (Ideal.cmp .oeq v (Ideal.ofBits .f32 0x7F800000#32))) a b = if v < Ideal.ofBits .f32 0x00800000#32 ∨ v = ⊤ then a else b := by
    intro a b
    rw [ofBits_inf]
    by_cases c1 : v < Ideal.ofBits .f32 0x00800000#32 <;> by_cases c2 : v = ⊤ <;> simp [Scalar.select, Ideal.cmp, IntOp.ori, ofBool_eq_one, c1, c2]
  have hrE : refE (F := Ideal) v = if v < Ideal.ofBits .f32 0x00800000#32 ∨ v = ⊤ then Ideal.ofBits .f32 0x00000000#32 else
      min (Ideal.liftRound Int.floor (Ideal.div (Ideal.log v) (Ideal.log (Ideal.ofBits .f32 0x40000000#32))) + Ideal.ofBits .f32 0x3F800000#32)
        (Ideal.ofBits .f32 0x42FC0000#32) := hcond _ _
  by_cases hT : v = ⊤
  · refine ⟨0, by norm_num, by norm_num, ?_, ?_⟩
    · rw [eS, hfS, if_pos hT]; decide
    · rw [hrE, if_pos (.inr hT), ofBits_zero]; simp
  rw [if_neg hT] at hfS
  by_cases hz : (fieldLo (F := Ideal) v).toNat = 0
  · have hf : fieldLo (F := Ideal) v = 0#32 := BitVec.eq_of_toNat_eq (by simpa using hz)
    refine ⟨0, by norm_num, by norm_num, ?_, ?_⟩
    · rw [eS, hfS, hf]; decide
    · rw [hrE, if_pos, ofBits_zero]; · simp
      left
      rw [ofBits_tiny]
      by_contra hc
      refine h2 ⟨by omega, ?_⟩
      rw [hz]; simpa using not_lt.1 hc
  · have hB := h1.resolve_left hz
    have hge : ¬ v < Ideal.ofBits .f32 0x00800000#32 := by
      rw [ofBits_tiny, not_lt]
      refine le_trans (EReal.coe_le_coe_iff.2 ?_) hB.2
      exact zpow_le_zpow_right₀ one_le_two (by omega)
    have hbot : v ≠ ⊥ := by
      rintro rfl
      exact hge (by rw [ofBits_tiny]; exact EReal.bot_lt_coe _)
    obtain ⟨r, rfl⟩ : ∃ r : ℝ, v = r := ⟨v.toReal, (EReal.coe_toReal hT hbot).symm⟩
    refine ⟨((fieldLo (F := Ideal) (r : EReal)).toNat : ℤ) - 126, by omega, by omega, ?_, ?_⟩
    · have hn0 : ¬ IntOp.ori (IntOp.cmpi .eq (fieldLo (F := Ideal) (r : EReal)) 0#32) (IntOp.cmpi .eq (fieldLo (F := Ideal) (r : EReal)) 255#32) = 1 := by
        have n0 : fieldLo (F := Ideal) (r : EReal) ≠ 0#32 := fun hc => hz (by rw [hc]; rfl)
        have n1 : fieldLo (F := Ideal) (r : EReal) ≠ 255#32 := fun hc => by rw [hc] at h0; simp at h0
        simp [IntOp.ori, IntOp.cmpi, ofBool_eq_one, n0, n1]
      rw [eS, hfS, Scalar.select, if_neg hn0, IntOp.subi]
      rw [ofInt_sub, BitVec.ofInt_natCast, BitVec.ofNat_toNat]
      simp
    · rw [hrE, if_neg (by rintro (h | h); exacts [hge h, hT h]), ofBits_two, ofBits_one, ofBits_126, floor_log r _ (by omega) hB h2 h0]
      push_cast; rfl

/-- A power of two by its bits is the power by the exponential. -/
theorem ofBits_exp2 (b : BitVec 32) (e : ℤ) (h1 : -126 ≤ e) (h2 : e ≤ 127) (hb : b = BitVec.ofNat 32 (e + 127).toNat) :
    Ideal.ofBits .f32 (IntOp.shli .vector b 23#32) = Ideal.exp2 ((e : ℝ) : EReal) := by
  have e1 : IntOp.shli .vector b 23#32 = BitVec.ofNat 32 (e + 127).toNat <<< 23 := by
    rw [hb, shli_23]
  rw [e1, ofBits_shift _ (by omega) (by omega)]
  have : (((e + 127).toNat : ℕ) : ℤ) - 127 = e := by omega
  rw [this]
  show _ = ((Real.rpow 2 (e : ℝ) : ℝ) : EReal)
  exact congrArg _ (Real.rpow_intCast 2 e).symm

/-- **The kernel's scale is the reference's.** -/
theorem sclS_eq (v : EReal) : sclS (F := Ideal) v = Ideal.exp2 (refE (F := Ideal) v) := by
  obtain ⟨e, h1, h2, h3, h4⟩ := exponent_eq v
  rw [h4]
  refine ofBits_exp2 _ e (by omega) (by omega) ?_
  rw [h3]
  have : BitVec.ofNat 32 (e + 127).toNat = BitVec.ofInt 32 (e + 127) := by
    rw [← BitVec.ofInt_natCast, Int.toNat_of_nonneg (by omega)]
  rw [this, BitVec.ofInt_add]; rfl

/-- **The kernel's inverse scale is the reference's.** -/
theorem invS_eq (v : EReal) : invS (F := Ideal) v = Ideal.exp2 (0 - refE (F := Ideal) v) := by
  obtain ⟨e, h1, h2, h3, h4⟩ := exponent_eq v
  rw [h4]
  have : (0 : EReal) - ((e : ℝ) : EReal) = (((-e : ℤ) : ℝ) : EReal) := by
    rw [zero_sub, ← EReal.coe_neg]; push_cast; rfl
  rw [this]
  refine ofBits_exp2 _ (-e) (by omega) (by omega) ?_
  rw [h3]
  have : BitVec.ofNat 32 (-e + 127).toNat = BitVec.ofInt 32 (127 - e) := by
    rw [← BitVec.ofInt_natCast, Int.toNat_of_nonneg (by omega)]; congr 1; ring
  rw [this, ofInt_sub]; rfl

end Cert.Spec

end
-- ==== Proof.Math.lean ====
/- What both programs compute over the extended reals, as functions of the four arrays: the product, the SwiGLU, the scaled maximum of
   a group of 128, its scale and its codes. -/
module

public import proofs.«01_k».proof.Proof.Quant
public import Idealize.ShloMosaic.Lib.ValueLayout

@[expose] public section

noncomputable section

namespace Cert.Spec

open Idealize.ShloMosaic

variable (x : Fin 6144 → Fin 3584 → EReal) (xs : Fin 6144 → Fin 28 → EReal)
  (w : Fin 3584 → Fin 18944 → EReal) (ws : Fin 28 → Fin 148 → EReal)

/-- The product of the widened activations and the widened weights. -/
def yV (r : Fin 6144) (q : Fin 18944) : EReal :=
  Ideal.ofBits .f32 0x00000000#32 + ∑ k : Fin 3584, (x r k * xs r ⟨k.val / 128, by omega⟩) * (w k q * ws ⟨k.val / 128, by omega⟩ ⟨q.val / 128, by omega⟩)
/-- The SwiGLU of group `p`. -/
def hV (r : Fin 6144) (p : Fin 74) (j : Fin 128) : EReal :=
  hS (F := Ideal) (yV x xs w ws r ⟨256 * p.val + j.val, by omega⟩) (yV x xs w ws r ⟨256 * p.val + 128 + j.val, by omega⟩)
/-- The largest magnitude of a group, over 448. -/
def vV (r : Fin 6144) (p : Fin 74) : EReal :=
  FloatOps.mulf (F := Ideal) (φ := .f32)
    ((Finset.univ : Finset (Fin 128)).fold max (FloatOps.ofBits (F := Ideal) .f32 0xFF800000#32) fun j => FloatOps.absf (F := Ideal) (φ := .f32) (hV x xs w ws r p j))
    (FloatOps.ofBits .f32 0x3B124925#32)
/-- A scale. -/
def sV (r : Fin 6144) (p : Fin 74) : EReal := Ideal.exp2 (refE (F := Ideal) (vV x xs w ws r p))
/-- A code. -/
def cV (r : Fin 6144) (p : Fin 74) (j : Fin 128) : EReal :=
  clipS (F := Ideal) (hV x xs w ws r p j) (Ideal.exp2 (0 - refE (F := Ideal) (vV x xs w ws r p)))

/-- The SwiGLU as the reference writes it, with a logistic function. -/
theorem hS_logistic (g u : EReal) : g * Ideal.logistic g * u = hS (F := Ideal) g u := by
  show _ = g * Ideal.div (Ideal.ofBits .f32 0x3F800000#32) (Ideal.ofBits .f32 0x3F800000#32 + Ideal.exp (Ideal.ofBits .f32 0x00000000#32 - g)) * u
  rw [ofBits_one, ofBits_zero, zero_sub]; rfl

/-- Dropping a leading axis of one element renames nothing else. -/
theorem cast_drop {α : Type} {M N : ℕ} (v : (⟨3, ![1, M, N]⟩ : Shape).Idx → α) (h) (r : Fin M) (k : Fin N) :
    shapeCast ⟨2, ![M, N]⟩ v h (ValueIdx.ix2 r k) = v (ValueIdx.ix3 0 r k) := by
  refine shapeCast_apply v _ _ _ ?_
  rw [Shape.rowMajor_val_two, Shape.rowMajor_val_three]
  show (0 * M + r.val) * N + k.val = r.val * N + k.val
  rw [Nat.zero_mul, Nat.zero_add]

end Cert.Spec

end
-- ==== Proof.KernelValue.lean ====
/- The kernel's two arrays over the extended reals. -/
module

public import proofs.«01_k».proof.Proof.Values
public import proofs.«01_k».proof.Proof.Math
public import Idealize.ShloMosaic.Lib.MatmulPlain

@[expose] public section

set_option maxRecDepth 16384

noncomputable section

namespace Cert.KernelIdeal.Hand

open Cert.KernelIdeal.Gen Cert.Spec
open Idealize.ShloMosaic Idealize.ShloMosaic.TcCoe Idealize.ShloMosaic.Tactic Idealize.ShloMosaic.ValueIdx
open Idealize.SL.Sem
open Idealize.ShloMosaic.Pipeline (Dat RDat Cfg Window cellOf)

variable (m : (ℓ : Loc nD τ sig) → Buf (Elt Ideal) ℓ)

/-- The four arrays at coordinates. -/
def kx (c : Dev nD) : Fin 6144 → Fin 3584 → EReal := fun r k => (V m c main_v0 : Vec Ideal S6144x3584 .fp8e4m3) (ix2 r k)
def kxs (c : Dev nD) : Fin 6144 → Fin 28 → EReal := fun r k => (V m c main_v1 : Vec Ideal S6144x28 .f32) (ix2 r k)
def kw (c : Dev nD) : Fin 3584 → Fin 18944 → EReal := fun r k => (V m c main_arg2 : Vec Ideal S3584x18944 .fp8e4m3) (ix2 r k)
def kws (c : Dev nD) : Fin 28 → Fin 148 → EReal := fun r k => (V m c main_arg3 : Vec Ideal S28x148 .f32) (ix2 r k)

theorem xbAt_spec (c : Dev nD) (t : Fin cfg0.N) (r : Fin 1024) (k : Fin 3584) :
    (xbAt m c t (ix2 r k) : EReal) = kx m c (rowAt t r) k * kxs m c (rowAt t r) ⟨k.val / 128, by omega⟩ := by
  have h1 := iblk1_at m c t (ix2 r k)
  have h2 := iblk2_at m c t (ix2 r ⟨k.val / 128, by omega⟩)
  exact congrArg₂ (fun a b : EReal => a * b) h1 h2

theorem wbAt_spec (c : Dev nD) (t : Fin cfg0.N) (k : Fin 3584) (q : Fin 512) (Q : Fin 18944) (hQ : Q.val = t.val % 37 * 512 + q.val) :
    (WB (nI (grid0.coords t)) (iblk m c 0 t) (iblk m c 3 t) (ix2 k q) : EReal)
      = kw m c k Q * kws m c ⟨k.val / 128, by omega⟩ ⟨Q.val / 128, by omega⟩ := by
  have h3 := iblk3_at m c t (ix2 k q)
  have hn := nI_coords t
  refine (congrArg₂ (fun a b : EReal => a * b) (h3.trans (congrArg (V m c main_arg2) ?_))
    ((iblk0_at m c t _).trans (congrArg (V m c main_arg3) ?_)) : _)
  · funext a; apply Fin.ext; fin_cases a
    · rfl
    · exact hQ.symm
  · funext a; apply Fin.ext; fin_cases a
    · rfl
    · show (nI (grid0.coords t)).val * 4 + q.val / 128 = Q.val / 128
      omega

/-- The product of a point. -/
theorem yAt_spec (c : Dev nD) (t : Fin cfg0.N) (r : Fin 1024) (q : Fin 512) (Q : Fin 18944) (hQ : Q.val = t.val % 37 * 512 + q.val) :
    (yAt m c t (ix2 r q) : EReal) = yV (kx m c) (kxs m c) (kw m c) (kws m c) (rowAt t r) Q := by
  refine (Ideal.matmul_plain_apply (M := 1024) (K := 3584) (N := 512) none (xbAt m c t) (WB (nI (grid0.coords t)) (iblk m c 0 t) (iblk m c 3 t))
    (constant S1024x512 .f32 0x00000000#32) r q).trans ?_
  refine congrArg₂ (fun a b : EReal => a + b) rfl (Finset.sum_congr rfl fun k _ => ?_)
  exact congrArg₂ (fun a b : EReal => a * b) (xbAt_spec m c t r k) (wbAt_spec m c t k q Q hQ)

/-- The SwiGLU of a point's pair `p`, which is group `P` of the row. -/
theorem hAt_spec (c : Dev nD) (t : Fin cfg0.N) (p : Fin 2) (P : Fin 74) (hP : P.val = 2 * (t.val % 37) + p.val) (r : Fin 1024) (j : Fin 128) :
    (hB (yAt m c t) p (ix2 r j) : EReal) = hV (kx m c) (kxs m c) (kw m c) (kws m c) (rowAt t r) P j := by
  have e1 := yAt_spec m c t r ⟨256 * p.val + j.val, by omega⟩ ⟨256 * P.val + j.val, by omega⟩ (by show 256 * P.val + j.val = t.val % 37 * 512 + (256 * p.val + j.val); omega)
  have e2 := yAt_spec m c t r ⟨256 * p.val + 128 + j.val, by omega⟩ ⟨256 * P.val + 128 + j.val, by omega⟩ (by show 256 * P.val + 128 + j.val = t.val % 37 * 512 + (256 * p.val + 128 + j.val); omega)
  exact congrArg₂ (hS (F := Ideal)) e1 e2

theorem lift_row (r : Fin 1024) (j : Fin 128) : reduces_S1024x128_S1024.lift (ix1 r) j = (ix2 r j : S1024x128.Idx) := by
  funext a; apply Fin.ext; fin_cases a <;> rfl

/-- The scaled maximum of a point's pair. -/
theorem vAt_spec (c : Dev nD) (t : Fin cfg0.N) (p : Fin 2) (P : Fin 74) (hP : P.val = 2 * (t.val % 37) + p.val) (r : Fin 1024) :
    (vB (hB (yAt m c t) p) r : EReal) = vV (kx m c) (kxs m c) (kw m c) (kws m c) (rowAt t r) P := by
  refine congrArg (fun a : EReal => FloatOps.mulf (F := Ideal) (φ := .f32) a (FloatOps.ofBits .f32 0x3B124925#32)) ?_
  refine (Ideal.multiReduction_maximumf_single (absf (hB (yAt m c t) p)) 0xFF800000#32 reduces_S1024x128_S1024 (.inl rfl) rfl (ix1 r)).trans ?_
  refine congrArg ((Finset.univ : Finset (Fin 128)).fold max (FloatOps.ofBits (F := Ideal) .f32 0xFF800000#32)) (funext fun (j : Fin 128) => ?_)
  exact congrArg (FloatOps.absf (F := Ideal) (φ := .f32)) ((congrArg (hB (yAt m c t) p) (lift_row r j)).trans (hAt_spec m c t p P hP r j))

/-- A scale of the array. -/
theorem G5_spec (c : Dev nD) (R : Fin 6144) (P : Fin 74) :
    (G5 m c (ix2 R P) : EReal) = sV (kx m c) (kxs m c) (kw m c) (kws m c) R P := by
  show (scAt m c ⟨R.val / 1024, _⟩ ⟨R.val % 1024, _⟩ P : EReal) = _
  unfold scAt
  rw [sclS_eq, vAt_spec m c _ _ P (by rw [pt_val]; show P.val = 2 * ((R.val / 1024 * 37 + P.val / 2) % 37) + P.val % 2; omega)]
  have e : rowAt (pt ⟨R.val / 1024, by omega⟩ ⟨P.val / 2, by omega⟩) ⟨R.val % 1024, by omega⟩ = R :=
    Fin.ext (by show (R.val / 1024 * 37 + P.val / 2) / 37 * 1024 + R.val % 1024 = R.val; omega)
  rw [e]; rfl

/-- A code of a point. -/
theorem codesAt_spec (c : Dev nD) (t : Fin cfg0.N) (p : Fin 2) (P : Fin 74) (hP : P.val = 2 * (t.val % 37) + p.val) (r : Fin 1024) (j : Fin 128)
    (q : Fin 256) (hq : q.val = 128 * p.val + j.val) :
    (codesAt m c t (ix2 r q) : EReal) = cV (kx m c) (kxs m c) (kw m c) (kws m c) (rowAt t r) P j := by
  refine (codesB_at (yAt m c t) p (ix2 r j) (ix2 r q) rfl hq).trans ?_
  exact congrArg₂ (clipS (F := Ideal)) (hAt_spec m c t p P hP r j)
    ((invS_eq _).trans (congrArg (fun v : EReal => Ideal.exp2 (0 - refE (F := Ideal) v)) (vAt_spec m c t p P hP r)))

/-- A code of the array. -/
theorem G4_spec (c : Dev nD) (R : Fin 6144) (C : Fin 9472) :
    (G4 m c (ix2 R C) : EReal) = cV (kx m c) (kxs m c) (kw m c) (kws m c) R ⟨C.val / 128, by omega⟩ ⟨C.val % 128, by omega⟩ := by
  have h := codesAt_spec m c (pt ⟨R.val / 1024, by omega⟩ ⟨C.val / 256, by omega⟩) ⟨C.val % 256 / 128, by omega⟩ ⟨C.val / 128, by omega⟩
    (by rw [pt_val]; show C.val / 128 = 2 * ((R.val / 1024 * 37 + C.val / 256) % 37) + C.val % 256 / 128; omega)
    ⟨R.val % 1024, by omega⟩ ⟨C.val % 128, by omega⟩ ⟨C.val % 256, by omega⟩ (by show C.val % 256 = 128 * (C.val % 256 / 128) + C.val % 128; omega)
  have e : rowAt (pt ⟨R.val / 1024, by omega⟩ ⟨C.val / 256, by omega⟩) ⟨R.val % 1024, by omega⟩ = R :=
    Fin.ext (by show (R.val / 1024 * 37 + C.val / 256) / 37 * 1024 + R.val % 1024 = R.val; omega)
  rw [e] at h
  exact h

end Cert.KernelIdeal.Hand

end
-- ==== Proof.KernelArgs.lean ====
/- The kernel's arrays are the launch's arguments, the first two without their leading axis. -/
module

public import proofs.«01_k».proof.Proof.KernelValue
public import Idealize.ShloMosaic.Lib.Claim
public import Idealize.ShloMosaic.Lib.ValueLayout

@[expose] public section

set_option maxRecDepth 16384

noncomputable section

namespace Cert.KernelIdeal.Hand

open Cert.KernelIdeal.Gen Cert.Spec
open Idealize.ShloMosaic Idealize.ShloMosaic.TcCoe Idealize.ShloMosaic.Tactic Idealize.ShloMosaic.ValueIdx
open Idealize.SL.Sem

variable {F : FTy → Type} [FloatOps F] (m : (ℓ : Loc nD τ sig) → Buf (Elt F) ℓ)

theorem V_v0_at (c : Dev nD) (r : Fin 6144) (k : Fin 3584) :
    (V m c main_v0 : Vec F S6144x3584 .fp8e4m3) (ix2 r k) = (m ((c.tc : Thread nD τ).loc main_arg0) : Vec F S1x6144x3584 .fp8e4m3) (ix3 0 r k) := by
  entry_read
  exact cast_drop _ _ r k
theorem V_v1_at (c : Dev nD) (r : Fin 6144) (k : Fin 28) :
    (V m c main_v1 : Vec F S6144x28 .f32) (ix2 r k) = (m ((c.tc : Thread nD τ).loc main_arg1) : Vec F S1x6144x28 .f32) (ix3 0 r k) := by
  entry_read
  exact cast_drop _ _ r k

end Cert.KernelIdeal.Hand

end
-- ==== Proof.RefLayout.lean ====
/- The reference's reshapes, slices and broadcasts read at coordinates: they only rename indices. -/
module

public import proofs.«01_k».proof.Proof.Gen.ReferenceIdeal.Value
public import proofs.«01_k».proof.Proof.Math
public import Idealize.ShloMosaic.Lib.MatmulPlain
public import Idealize.ShloMosaic.Lib.ValueIdx
public import Idealize.ShloMosaic.Lib.ValueLayout

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.ValueIdx

/-! ## The reshapes, slices and broadcasts at coordinates -/

section Layout

variable {α : Type}

theorem cast_x (v : S6144x3584.Idx → α) (h) (r : Fin 6144) (g : Fin 28) (j : Fin 128) :
    shapeCast S6144x28x128 v h (ix3 r g j) = v (ix2 r (⟨128 * g.val + j.val, by omega⟩ : Fin 3584)) := by
  refine shapeCast_apply v _ _ _ ?_
  rw [Shape.rowMajor_val_two, Shape.rowMajor_val_three]
  show r.val * 3584 + (128 * g.val + j.val) = (r.val * 28 + g.val) * 128 + j.val; omega
theorem cast_xw (v : S6144x28x128.Idx → α) (h) (r : Fin 6144) (k : Fin 3584) :
    shapeCast S6144x3584 v h (ix2 r k) = v (ix3 r (⟨k.val / 128, by omega⟩ : Fin 28) (⟨k.val % 128, by omega⟩ : Fin 128)) := by
  refine shapeCast_apply v _ _ _ ?_
  rw [Shape.rowMajor_val_two, Shape.rowMajor_val_three]
  show (r.val * 28 + k.val / 128) * 128 + k.val % 128 = r.val * 3584 + k.val; omega
theorem cast_xs (v : S6144x28.Idx → α) (h) (r : Fin 6144) (g : Fin 28) :
    shapeCast S6144x28x1 v h (ix3 r g 0) = v (ix2 r g) := by
  refine shapeCast_apply v _ _ _ ?_
  rw [Shape.rowMajor_val_two, Shape.rowMajor_val_three]
  show r.val * 28 + g.val = (r.val * 28 + g.val) * 1 + 0; omega
theorem bcast_xs (v : S6144x28x1.Idx → α) (h) (r : Fin 6144) (g : Fin 28) (j : Fin 128) :
    broadcastTo S6144x28x128 v h (ix3 r g j) = v (ix3 r g 0) := by
  refine congrArg v ?_
  funext a; apply Fin.ext; fin_cases a <;> rfl
theorem cast_w (v : S3584x18944.Idx → α) (h) (g : Fin 28) (i : Fin 128) (p : Fin 148) (j : Fin 128) :
    shapeCast S28x128x148x128 v h (ix4 g i p j) = v (ix2 (⟨128 * g.val + i.val, by omega⟩ : Fin 3584) (⟨128 * p.val + j.val, by omega⟩ : Fin 18944)) := by
  refine shapeCast_apply v _ _ _ ?_
  rw [Shape.rowMajor_val_two, Shape.rowMajor_val_four]
  show (128 * g.val + i.val) * 18944 + (128 * p.val + j.val) = ((g.val * 128 + i.val) * 148 + p.val) * 128 + j.val; omega
theorem cast_ww (v : S28x128x148x128.Idx → α) (h) (k : Fin 3584) (q : Fin 18944) :
    shapeCast S3584x18944 v h (ix2 k q) = v (ix4 (⟨k.val / 128, by omega⟩ : Fin 28) (⟨k.val % 128, by omega⟩ : Fin 128) (⟨q.val / 128, by omega⟩ : Fin 148) (⟨q.val % 128, by omega⟩ : Fin 128)) := by
  refine shapeCast_apply v _ _ _ ?_
  rw [Shape.rowMajor_val_two, Shape.rowMajor_val_four]
  show ((k.val / 128 * 128 + k.val % 128) * 148 + q.val / 128) * 128 + q.val % 128 = k.val * 18944 + q.val; omega
theorem cast_ws (v : S28x148.Idx → α) (h) (g : Fin 28) (p : Fin 148) :
    shapeCast S28x1x148x1 v h (ix4 g 0 p 0) = v (ix2 g p) := by
  refine shapeCast_apply v _ _ _ ?_
  rw [Shape.rowMajor_val_two, Shape.rowMajor_val_four]
  show g.val * 148 + p.val = ((g.val * 1 + 0) * 148 + p.val) * 1 + 0; omega
theorem bcast_ws (v : S28x1x148x1.Idx → α) (h) (g : Fin 28) (i : Fin 128) (p : Fin 148) (j : Fin 128) :
    broadcastTo S28x128x148x128 v h (ix4 g i p j) = v (ix4 g 0 p 0) := by
  refine congrArg v ?_
  funext a; apply Fin.ext; fin_cases a <;> rfl
theorem cast_y (v : S6144x18944.Idx → α) (h) (r : Fin 6144) (p : Fin 74) (b : Fin 2) (j : Fin 128) :
    shapeCast S6144x74x2x128 v h (ix4 r p b j) = v (ix2 r (⟨256 * p.val + 128 * b.val + j.val, by omega⟩ : Fin 18944)) := by
  refine shapeCast_apply v _ _ _ ?_
  rw [Shape.rowMajor_val_two, Shape.rowMajor_val_four]
  show r.val * 18944 + (256 * p.val + 128 * b.val + j.val) = ((r.val * 74 + p.val) * 2 + b.val) * 128 + j.val; omega
theorem cast_half (v : S6144x74x1x128.Idx → α) (h) (r : Fin 6144) (p : Fin 74) (j : Fin 128) :
    shapeCast S6144x74x128 v h (ix3 r p j) = v (ix4 r p 0 j) := by
  refine shapeCast_apply v _ _ _ ?_
  rw [Shape.rowMajor_val_three, Shape.rowMajor_val_four]
  show ((r.val * 74 + p.val) * 1 + 0) * 128 + j.val = (r.val * 74 + p.val) * 128 + j.val; omega
theorem slice_gate (v : S6144x74x2x128.Idx → α) (h) (r : Fin 6144) (p : Fin 74) (j : Fin 128) :
    extractStridedSlice S6144x74x1x128 ![0, 0, 0, 0] v h (ix4 r p 0 j) = v (ix4 r p 0 j) := by
  refine congrArg v ?_
  funext a; apply Fin.ext; fin_cases a
  · exact Nat.zero_add _
  · exact Nat.zero_add _
  · rfl
  · exact Nat.zero_add _
theorem slice_up (v : S6144x74x2x128.Idx → α) (h) (r : Fin 6144) (p : Fin 74) (j : Fin 128) :
    extractStridedSlice S6144x74x1x128 ![0, 0, 1, 0] v h (ix4 r p 0 j) = v (ix4 r p 1 j) := by
  refine congrArg v ?_
  funext a; apply Fin.ext; fin_cases a
  · exact Nat.zero_add _
  · exact Nat.zero_add _
  · rfl
  · exact Nat.zero_add _
theorem cast_e (v : S6144x74.Idx → α) (h) (r : Fin 6144) (p : Fin 74) :
    shapeCast S6144x74x1 v h (ix3 r p 0) = v (ix2 r p) := by
  refine shapeCast_apply v _ _ _ ?_
  rw [Shape.rowMajor_val_two, Shape.rowMajor_val_three]
  show r.val * 74 + p.val = (r.val * 74 + p.val) * 1 + 0; omega
theorem bcast_e (v : S6144x74x1.Idx → α) (h) (r : Fin 6144) (p : Fin 74) (j : Fin 128) :
    broadcastTo S6144x74x128 v h (ix3 r p j) = v (ix3 r p 0) := by
  refine congrArg v ?_
  funext a; apply Fin.ext; fin_cases a <;> rfl
theorem cast_codes (v : S6144x74x128.Idx → α) (h) (r : Fin 6144) (q : Fin 9472) :
    shapeCast S6144x9472 v h (ix2 r q) = v (ix3 r (⟨q.val / 128, by omega⟩ : Fin 74) (⟨q.val % 128, by omega⟩ : Fin 128)) := by
  refine shapeCast_apply v _ _ _ ?_
  rw [Shape.rowMajor_val_two, Shape.rowMajor_val_three]
  show (r.val * 74 + q.val / 128) * 128 + q.val % 128 = r.val * 9472 + q.val; omega

end Layout

end Cert.ReferenceIdeal.Hand

end
-- ==== Proof.RefPay.lean ====
/- The reference's payloads over the extended reals, read at coordinates: its reshapes only rename indices. -/
module

public import proofs.«01_k».proof.Proof.RefLayout
public import proofs.«01_k».proof.Proof.Math
public import Idealize.ShloMosaic.Lib.MatmulPlain
public import Idealize.ShloMosaic.Lib.ValueIdx
public import Idealize.ShloMosaic.Lib.ValueLayout

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.ValueIdx

/-! ## The payloads at any floats, element by element -/

section Generic

variable {F : FTy → Type} [FloatOps F]

/-- The largest magnitude of each group. -/
def rR (h : FVec F S6144x74x128 .f32) : FVec F S6144x74 .f32 :=
  multiReduction .maximumf [2] S6144x74 (absf h) 0xFF800000#32 reduces_S6144x74x128_S6144x74 (.inl rfl) rfl

/-- The exponent, from the scaled maxima … -/
def eR (v0 : Vec F S6144x3584 .fp8e4m3) (v4 : Vec F S6144x28 .f32) (v11 : Vec F S3584x18944 .fp8e4m3) (v14 : Vec F S28x148 .f32) : FVec F S6144x74 .f32 :=
  k0_pay1 (k0_pay5 v0 v4 v11 v14) (k0_pay6 v0 v4 v11 v14) (k0_pay7 v0 v4 v11 v14) (Scalar.ofBits .f32 0x7F800000#32)

variable (v0 : Vec F S6144x3584 .fp8e4m3) (v4 : Vec F S6144x28 .f32) (v11 : Vec F S3584x18944 .fp8e4m3) (v14 : Vec F S28x148 .f32)

theorem pay5_eq (j : S6144x74.Idx) :
    k0_pay5 v0 v4 v11 v14 j = FloatOps.mulf (rR (k0_pay4 v0 v4 v11 v14) j) (FloatOps.ofBits .f32 0x3B124925#32) := rfl
theorem eR_eq (j : S6144x74.Idx) : eR v0 v4 v11 v14 j = refE (k0_pay5 v0 v4 v11 v14 j) := rfl
theorem pay3_eq (j : S6144x74.Idx) :
    k0_pay3 (k0_pay5 v0 v4 v11 v14) (k0_pay6 v0 v4 v11 v14) (k0_pay7 v0 v4 v11 v14) (Scalar.ofBits .f32 0x7F800000#32) j
      = FloatOps.exp2 (eR v0 v4 v11 v14 j) := rfl
theorem pay2_eq (r : Fin 6144) (q : Fin 9472) :
    k0_pay2 (k0_pay4 v0 v4 v11 v14) (k0_pay5 v0 v4 v11 v14) (k0_pay6 v0 v4 v11 v14) (k0_pay7 v0 v4 v11 v14) (Scalar.ofBits .f32 0x7F800000#32) (ix2 r q)
      = FloatOps.truncf .fp8e4m3 bitsLt_fp8e4m3_f32 (clipS (k0_pay4 v0 v4 v11 v14 (ix3 r (⟨q.val / 128, by omega⟩ : Fin 74) (⟨q.val % 128, by omega⟩ : Fin 128)))
        (FloatOps.exp2 (FloatOps.subf (FloatOps.ofBits .f32 0x00000000#32) (eR v0 v4 v11 v14 (ix2 r (⟨q.val / 128, by omega⟩ : Fin 74)))))) := by
  unfold k0_pay2
  refine (cast_codes _ _ r q).trans ?_
  refine congrArg (fun a => FloatOps.truncf .fp8e4m3 bitsLt_fp8e4m3_f32 (clipS (k0_pay4 v0 v4 v11 v14 (ix3 r (⟨q.val / 128, by omega⟩ : Fin 74) (⟨q.val % 128, by omega⟩ : Fin 128))) a)) ?_
  exact (bcast_e _ _ r _ _).trans (cast_e _ _ r _)

end Generic

/-! ## The payloads -/

section Payloads

variable (v0 : Vec Ideal S6144x3584 .fp8e4m3) (v4 : Vec Ideal S6144x28 .f32) (v11 : Vec Ideal S3584x18944 .fp8e4m3) (v14 : Vec Ideal S28x148 .f32)

/-- The four arrays at coordinates. -/
def rx : Fin 6144 → Fin 3584 → EReal := fun r k => v0 (ix2 r k)
def rxs : Fin 6144 → Fin 28 → EReal := fun r k => v4 (ix2 r k)
def rwt : Fin 3584 → Fin 18944 → EReal := fun r k => v11 (ix2 r k)
def rws : Fin 28 → Fin 148 → EReal := fun r k => v14 (ix2 r k)

/-- The widened activations … -/
def xwR : FVec Ideal S6144x3584 .bf16 :=
  shapeCast S6144x3584 (mulf (shapeCast S6144x28x128 (extf .bf16 (shapeCast S6144x3584 v0 shapeCasts_S6144x3584_S6144x3584) bitsLt_fp8e4m3_bf16) shapeCasts_S6144x3584_S6144x28x128)
    (broadcastTo S6144x28x128 (shapeCast S6144x28x1 (truncf .bf16 (shapeCast S6144x28 v4 shapeCasts_S6144x28_S6144x28) bitsLt_bf16_f32) shapeCasts_S6144x28_S6144x28x1)
      broadcasts_S6144x28x1_S6144x28x128)) shapeCasts_S6144x28x128_S6144x3584
/-- … and weights, -/
def wwR : FVec Ideal S3584x18944 .bf16 :=
  shapeCast S3584x18944 (mulf (shapeCast S28x128x148x128 (extf .bf16 v11 bitsLt_fp8e4m3_bf16) shapeCasts_S3584x18944_S28x128x148x128)
    (broadcastTo S28x128x148x128 (shapeCast S28x1x148x1 (truncf .bf16 v14 bitsLt_bf16_f32) shapeCasts_S28x148_S28x1x148x1)
      broadcasts_S28x1x148x1_S28x128x148x128)) shapeCasts_S28x128x148x128_S3584x18944
/-- and their product. -/
def yR : FVec Ideal S6144x18944 .f32 :=
  matmul dot_S6144x3584_S3584x18944_S6144x18944_1_0_0_1_n_n none (xwR v0 v4) (wwR v11 v14) (constant S6144x18944 .f32 0x00000000#32)

theorem xwR_at (r : Fin 6144) (k : Fin 3584) :
    (xwR v0 v4 (ix2 r k) : EReal) = rx v0 r k * rxs v4 r ⟨k.val / 128, by omega⟩ := by
  unfold xwR
  rw [cast_xw]
  refine congrArg₂ (fun a b : EReal => a * b) ?_ ?_
  · refine (cast_x _ _ r _ _).trans ?_
    show shapeCast S6144x3584 v0 _ _ = _
    rw [shapeCast_self]
    refine congrArg (fun q : Fin 3584 => v0 (ix2 r q)) (Fin.ext ?_)
    show 128 * (k.val / 128) + k.val % 128 = k.val; omega
  · refine (bcast_xs _ _ r _ _).trans ((cast_xs _ _ r _).trans ?_)
    show shapeCast S6144x28 v4 _ _ = _
    rw [shapeCast_self]; rfl

theorem wwR_at (k : Fin 3584) (q : Fin 18944) :
    (wwR v11 v14 (ix2 k q) : EReal) = rwt v11 k q * rws v14 ⟨k.val / 128, by omega⟩ ⟨q.val / 128, by omega⟩ := by
  unfold wwR
  rw [cast_ww]
  refine congrArg₂ (fun a b : EReal => a * b) ?_ ?_
  · refine (cast_w _ _ _ _ _ _).trans ?_
    show v11 _ = v11 _
    refine congrArg v11 ?_
    funext a; apply Fin.ext; fin_cases a
    · show 128 * (k.val / 128) + k.val % 128 = k.val; omega
    · show 128 * (q.val / 128) + q.val % 128 = q.val; omega
  · exact (bcast_ws _ _ _ _ _ _).trans (cast_ws _ _ _ _)

theorem yR_at (r : Fin 6144) (q : Fin 18944) :
    (yR v0 v4 v11 v14 (ix2 r q) : EReal) = yV (rx v0) (rxs v4) (rwt v11) (rws v14) r q := by
  refine (Ideal.matmul_plain_apply (M := 6144) (K := 3584) (N := 18944) none (xwR v0 v4) (wwR v11 v14)
    (constant S6144x18944 .f32 0x00000000#32) r q).trans ?_
  refine congrArg₂ (fun a b : EReal => a + b) rfl (Finset.sum_congr rfl fun k _ => ?_)
  exact congrArg₂ (fun a b : EReal => a * b) (xwR_at v0 v4 r k) (wwR_at v11 v14 k q)

/-- The gate and up halves of the product. -/
def gR : FVec Ideal S6144x74x128 .f32 :=
  shapeCast S6144x74x128 (extractStridedSlice S6144x74x1x128 ![0, 0, 0, 0] (shapeCast S6144x74x2x128 (yR v0 v4 v11 v14) shapeCasts_S6144x18944_S6144x74x2x128)
    slices_S6144x74x2x128_o0_0_0_0_S6144x74x1x128) shapeCasts_S6144x74x1x128_S6144x74x128
def uR : FVec Ideal S6144x74x128 .f32 :=
  shapeCast S6144x74x128 (extractStridedSlice S6144x74x1x128 ![0, 0, 1, 0] (shapeCast S6144x74x2x128 (yR v0 v4 v11 v14) shapeCasts_S6144x18944_S6144x74x2x128)
    slices_S6144x74x2x128_o0_0_1_0_S6144x74x1x128) shapeCasts_S6144x74x1x128_S6144x74x128

theorem gR_at (r : Fin 6144) (p : Fin 74) (j : Fin 128) :
    (gR v0 v4 v11 v14 (ix3 r p j) : EReal) = yV (rx v0) (rxs v4) (rwt v11) (rws v14) r ⟨256 * p.val + j.val, by omega⟩ := by
  unfold gR
  rw [cast_half, slice_gate, cast_y]
  exact yR_at v0 v4 v11 v14 r ⟨256 * p.val + j.val, by omega⟩
theorem uR_at (r : Fin 6144) (p : Fin 74) (j : Fin 128) :
    (uR v0 v4 v11 v14 (ix3 r p j) : EReal) = yV (rx v0) (rxs v4) (rwt v11) (rws v14) r ⟨256 * p.val + 128 + j.val, by omega⟩ := by
  unfold uR
  rw [cast_half, slice_up, cast_y]
  exact yR_at v0 v4 v11 v14 r ⟨256 * p.val + 128 + j.val, by omega⟩

/-- The SwiGLU. -/
theorem pay4_at (r : Fin 6144) (p : Fin 74) (j : Fin 128) :
    (k0_pay4 v0 v4 v11 v14 (ix3 r p j) : EReal) = hV (rx v0) (rxs v4) (rwt v11) (rws v14) r p j := by
  have h : k0_pay4 v0 v4 v11 v14 = mulf (mulf (gR v0 v4 v11 v14) (logistic (gR v0 v4 v11 v14))) (uR v0 v4 v11 v14) := rfl
  rw [h]
  refine (hS_logistic (gR v0 v4 v11 v14 (ix3 r p j)) (uR v0 v4 v11 v14 (ix3 r p j))).trans ?_
  exact congrArg₂ (hS (F := Ideal)) (gR_at v0 v4 v11 v14 r p j) (uR_at v0 v4 v11 v14 r p j)

theorem lift_group (r : Fin 6144) (p : Fin 74) (j : Fin 128) :
    reduces_S6144x74x128_S6144x74.lift (ix2 r p) j = (ix3 r p j : S6144x74x128.Idx) := by
  funext a; apply Fin.ext; fin_cases a <;> rfl

theorem rR_at (h : FVec Ideal S6144x74x128 .f32) (r : Fin 6144) (p : Fin 74) (f : Fin 128 → EReal) (hf : ∀ j, (h (ix3 r p j) : EReal) = f j) :
    (rR h (ix2 r p) : EReal) = (Finset.univ : Finset (Fin 128)).fold max (FloatOps.ofBits (F := Ideal) .f32 0xFF800000#32) fun j => FloatOps.absf (F := Ideal) (φ := .f32) (f j) := by
  refine (Ideal.multiReduction_maximumf_single (absf h) 0xFF800000#32 reduces_S6144x74x128_S6144x74 (.inl rfl) rfl (ix2 r p)).trans ?_
  refine congrArg ((Finset.univ : Finset (Fin 128)).fold max (FloatOps.ofBits (F := Ideal) .f32 0xFF800000#32)) (funext fun (j : Fin 128) => ?_)
  exact congrArg (FloatOps.absf (F := Ideal) (φ := .f32)) ((congrArg h (lift_group r p j)).trans (hf j))

/-- The scaled maximum of a group. -/
theorem pay5_at (r : Fin 6144) (p : Fin 74) :
    (k0_pay5 v0 v4 v11 v14 (ix2 r p) : EReal) = vV (rx v0) (rxs v4) (rwt v11) (rws v14) r p := by
  rw [pay5_eq, rR_at (k0_pay4 v0 v4 v11 v14) r p _ (pay4_at v0 v4 v11 v14 r p)]
  rfl

theorem eR_at (r : Fin 6144) (p : Fin 74) :
    (eR v0 v4 v11 v14 (ix2 r p) : EReal) = refE (F := Ideal) (vV (rx v0) (rxs v4) (rwt v11) (rws v14) r p) := by
  rw [eR_eq, pay5_at]

/-- The scales … -/
theorem pay3_at (r : Fin 6144) (p : Fin 74) :
    (k0_pay3 (k0_pay5 v0 v4 v11 v14) (k0_pay6 v0 v4 v11 v14) (k0_pay7 v0 v4 v11 v14) (Scalar.ofBits .f32 0x7F800000#32) (ix2 r p) : EReal)
      = sV (rx v0) (rxs v4) (rwt v11) (rws v14) r p := by
  rw [pay3_eq, eR_at]; rfl

/-- … and the codes. -/
theorem pay2_at (r : Fin 6144) (q : Fin 9472) :
    (k0_pay2 (k0_pay4 v0 v4 v11 v14) (k0_pay5 v0 v4 v11 v14) (k0_pay6 v0 v4 v11 v14) (k0_pay7 v0 v4 v11 v14) (Scalar.ofBits .f32 0x7F800000#32) (ix2 r q) : EReal)
      = cV (rx v0) (rxs v4) (rwt v11) (rws v14) r ⟨q.val / 128, by omega⟩ ⟨q.val % 128, by omega⟩ := by
  rw [pay2_eq, eR_at, pay4_at]
  unfold cV
  rw [← ofBits_zero]; rfl

end Payloads

end Cert.ReferenceIdeal.Hand

end
-- ==== Proof.RefValue.lean ====
/- The reference's two arrays over the extended reals. -/
module

public import proofs.«01_k».proof.Proof.RefPay
public import Idealize.ShloMosaic.Lib.Claim
public import Idealize.ShloMosaic.Lib.Pipeline.ValueKit.Geometry

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.Tactic Idealize.ShloMosaic.ValueIdx
open Idealize.SL.Sem
open Idealize.ShloMosaic.Pipeline (Dat)

section Generic

variable {F : FTy → Type} [FloatOps F] (m : (ℓ : Loc nD τ sig) → Buf (Elt F) ℓ)

theorem off00 : (![0, 0] : Fin 2 → ℕ) = fun _ => 0 := by
  funext a; fin_cases a <;> rfl

theorem V_v0_at (c : Dev nD) (r : Fin 6144) (k : Fin 3584) :
    (V m c main_v0 : Vec F S6144x3584 .fp8e4m3) (ix2 r k) = (m ((c.tc : Thread nD τ).loc main_arg0) : Vec F S1x6144x3584 .fp8e4m3) (ix3 0 r k) := by
  entry_read
  exact cast_drop _ _ r k
theorem V_v1_at (c : Dev nD) (r : Fin 6144) (k : Fin 28) :
    (V m c main_v1 : Vec F S6144x28 .f32) (ix2 r k) = (m ((c.tc : Thread nD τ).loc main_arg1) : Vec F S1x6144x28 .f32) (ix3 0 r k) := by
  entry_read
  exact cast_drop _ _ r k

theorem idx0_0 : ∀ t : Fin cfg0.N, win0_0.index t = ![0, 0] := by decide +kernel
theorem idx0_1 : ∀ t : Fin cfg0.N, win0_1.index t = ![0, 0] := by decide +kernel
theorem idx0_2 : ∀ t : Fin cfg0.N, win0_2.index t = ![0, 0] := by decide +kernel
theorem idx0_3 : ∀ t : Fin cfg0.N, win0_3.index t = ![0, 0] := by decide +kernel
theorem idx0_4 : ∀ t : Fin cfg0.N, win0_4.index t = ![0, 0] := by decide +kernel
theorem idx0_5 : ∀ t : Fin cfg0.N, win0_5.index t = ![0, 0] := by decide +kernel

/-- An input's one block is its array. -/
theorem iblk0_at (c : Dev nD) (t : Fin cfg0.N) (y : S6144x3584.Idx) : iblk m c 0 t y = V m c main_v0 y := by
  blk_simp [iblk]
  refine congrArg (V m c main_v0) ?_
  funext a; apply Fin.ext; fin_cases a
  · blk_simp [idx0_0]
  · blk_simp [idx0_0]
theorem iblk1_at (c : Dev nD) (t : Fin cfg0.N) (y : S6144x28.Idx) : iblk m c 1 t y = V m c main_v1 y := by
  blk_simp [iblk]
  refine congrArg (V m c main_v1) ?_
  funext a; apply Fin.ext; fin_cases a
  · blk_simp [idx0_1]
  · blk_simp [idx0_1]
theorem iblk2_at (c : Dev nD) (t : Fin cfg0.N) (y : S3584x18944.Idx) : iblk m c 2 t y = V m c main_arg2 y := by
  blk_simp [iblk]
  refine congrArg (V m c main_arg2) ?_
  funext a; apply Fin.ext; fin_cases a
  · blk_simp [idx0_2]
  · blk_simp [idx0_2]
theorem iblk3_at (c : Dev nD) (t : Fin cfg0.N) (y : S28x148.Idx) : iblk m c 3 t y = V m c main_arg3 y := by
  blk_simp [iblk]
  refine congrArg (V m c main_arg3) ?_
  funext a; apply Fin.ext; fin_cases a
  · blk_simp [idx0_3]
  · blk_simp [idx0_3]

/-- What the body leaves in its two blocks. -/
theorem out4_eq (v0 : Vec F S6144x3584 .fp8e4m3) (v4 : Vec F S6144x28 .f32) (v11 : Vec F S3584x18944 .fp8e4m3) (v14 : Vec F S28x148 .f32) :
    out0_4 v0 v4 v11 v14 = k0_pay2 (k0_pay4 v0 v4 v11 v14) (k0_pay5 v0 v4 v11 v14) (k0_pay6 v0 v4 v11 v14) (k0_pay7 v0 v4 v11 v14) (Scalar.ofBits .f32 0x7F800000#32) := by
  unfold out0_4 k0_pay10 k0_pay9 k0_pay8
  rw [View.canon_unit_zero off00, View.ld_unit_zero off00, View.ld_unit_zero off00, View.ld_unit_zero off00, View.ld_unit_zero off00]
theorem out5_eq (v0 : Vec F S6144x3584 .fp8e4m3) (v4 : Vec F S6144x28 .f32) (v11 : Vec F S3584x18944 .fp8e4m3) (v14 : Vec F S28x148 .f32) :
    out0_5 v0 v4 v11 v14 = k0_pay3 (k0_pay5 v0 v4 v11 v14) (k0_pay6 v0 v4 v11 v14) (k0_pay7 v0 v4 v11 v14) (Scalar.ofBits .f32 0x7F800000#32) := by
  unfold out0_5 k0_pay10 k0_pay9 k0_pay8
  rw [View.canon_unit_zero off00, View.ld_unit_zero off00, View.ld_unit_zero off00, View.ld_unit_zero off00, View.ld_unit_zero off00]

/-- The two arrays. -/
def G4 (c : Dev nD) : Vec F S6144x9472 .fp8e4m3 := out0_4 (V m c main_v0) (V m c main_v1) (V m c main_arg2) (V m c main_arg3)
def G5 (c : Dev nD) : Vec F S6144x74 .f32 := out0_5 (V m c main_v0) (V m c main_v1) (V m c main_arg2) (V m c main_arg3)

theorem blocks_eq4 (c : Dev nD) (t : Fin cfg0.N) : out0_4 (iblk m c 0 t) (iblk m c 1 t) (iblk m c 2 t) (iblk m c 3 t) = G4 m c := by
  have e0 : (iblk m c 0 t : Vec F S6144x3584 .fp8e4m3) = V m c main_v0 := funext (iblk0_at m c t)
  have e1 : (iblk m c 1 t : Vec F S6144x28 .f32) = V m c main_v1 := funext (iblk1_at m c t)
  have e2 : (iblk m c 2 t : Vec F S3584x18944 .fp8e4m3) = V m c main_arg2 := funext (iblk2_at m c t)
  have e3 : (iblk m c 3 t : Vec F S28x148 .f32) = V m c main_arg3 := funext (iblk3_at m c t)
  unfold G4
  rw [← e0, ← e1, ← e2, ← e3]
theorem blocks_eq5 (c : Dev nD) (t : Fin cfg0.N) : out0_5 (iblk m c 0 t) (iblk m c 1 t) (iblk m c 2 t) (iblk m c 3 t) = G5 m c := by
  have e0 : (iblk m c 0 t : Vec F S6144x3584 .fp8e4m3) = V m c main_v0 := funext (iblk0_at m c t)
  have e1 : (iblk m c 1 t : Vec F S6144x28 .f32) = V m c main_v1 := funext (iblk1_at m c t)
  have e2 : (iblk m c 2 t : Vec F S3584x18944 .fp8e4m3) = V m c main_arg2 := funext (iblk2_at m c t)
  have e3 : (iblk m c 3 t : Vec F S28x148 .f32) = V m c main_arg3 := funext (iblk3_at m c t)
  unfold G5
  rw [← e0, ← e1, ← e2, ← e3]

theorem final4 (c : Dev nD) : (dats m 0 c).arrAt 4 cfg0.N = G4 m c := by
  refine (dats m 0 c).arrAt_eq_of_covers 4 _ (by decide +kernel) fun t hf (y : S6144x9472.Idx) => ?_
  have e : (dats m 0 c).after 4 t = G4 m c := (after0_4 m c t).trans (blocks_eq4 m c t)
  have g : ((cfg0.win 4).blk t).view.emb y = y := by
    funext a; apply Fin.ext; fin_cases a
    · blk_simp [idx0_4]
    · blk_simp [idx0_4]
  exact (congrFun e y).trans (congrArg (G4 m c) g.symm)
theorem final5 (c : Dev nD) : (dats m 0 c).arrAt 5 cfg0.N = G5 m c := by
  refine (dats m 0 c).arrAt_eq_of_covers 5 _ (by decide +kernel) fun t hf (y : S6144x74.Idx) => ?_
  have e : (dats m 0 c).after 5 t = G5 m c := (after0_5 m c t).trans (blocks_eq5 m c t)
  have g : ((cfg0.win 5).blk t).view.emb y = y := by
    funext a; apply Fin.ext; fin_cases a
    · blk_simp [idx0_5]
    · blk_simp [idx0_5]
  exact (congrFun e y).trans (congrArg (G5 m c) g.symm)

end Generic

variable (m : (ℓ : Loc nD τ sig) → Buf (Elt Ideal) ℓ)

theorem G5_spec (c : Dev nD) (R : Fin 6144) (P : Fin 74) :
    (G5 m c (ix2 R P) : EReal) = sV (rx (V m c main_v0)) (rxs (V m c main_v1)) (rwt (V m c main_arg2)) (rws (V m c main_arg3)) R P := by
  unfold G5
  rw [out5_eq]
  exact pay3_at _ _ _ _ R P
theorem G4_spec (c : Dev nD) (R : Fin 6144) (C : Fin 9472) :
    (G4 m c (ix2 R C) : EReal) = cV (rx (V m c main_v0)) (rxs (V m c main_v1)) (rwt (V m c main_arg2)) (rws (V m c main_arg3)) R ⟨C.val / 128, by omega⟩ ⟨C.val % 128, by omega⟩ := by
  unfold G4
  rw [out4_eq]
  exact pay2_at _ _ _ _ R C

end Cert.ReferenceIdeal.Hand

end
-- ==== Proof.Algebraic.lean ====
/- The value claim: over the extended reals the kernel and the reference leave the same codes and the same scales. -/
module

public import proofs.«01_k».proof.Defs
public import proofs.«01_k».proof.Proof.KernelArgs
public import proofs.«01_k».proof.Proof.RefValue

@[expose] public section

set_option maxRecDepth 16384

noncomputable section

namespace Cert.Proof

open Cert.Spec
open Idealize.ShloMosaic Idealize.ShloMosaic.TcCoe Idealize.ShloMosaic.ValueIdx
open Idealize.SL.Sem

section Arrays

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem x_eq (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Hand.rx (Cert.ReferenceIdeal.Gen.V m' c Cert.ReferenceIdeal.main_v0) = Cert.KernelIdeal.Hand.kx m c := by
  funext r k
  exact (Cert.ReferenceIdeal.Hand.V_v0_at m' c r k).trans
    ((congrFun h (ix3 0 r k)).trans (Cert.KernelIdeal.Hand.V_v0_at m c r k).symm)

theorem xs_eq (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Hand.rxs (Cert.ReferenceIdeal.Gen.V m' c Cert.ReferenceIdeal.main_v1) = Cert.KernelIdeal.Hand.kxs m c := by
  funext r k
  exact (Cert.ReferenceIdeal.Hand.V_v1_at m' c r k).trans
    ((congrFun h (ix3 0 r k)).trans (Cert.KernelIdeal.Hand.V_v1_at m c r k).symm)

theorem w_eq (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Hand.rwt (Cert.ReferenceIdeal.Gen.V m' c Cert.ReferenceIdeal.main_arg2) = Cert.KernelIdeal.Hand.kw m c := by
  funext r k
  exact (congrFun (Cert.ReferenceIdeal.Gen.V_main_arg2 m' c) (ix2 r k)).trans
    ((congrFun h (ix2 r k)).trans (congrFun (Cert.KernelIdeal.Gen.V_main_arg2 m c) (ix2 r k)).symm)

theorem ws_eq (h : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Hand.rws (Cert.ReferenceIdeal.Gen.V m' c Cert.ReferenceIdeal.main_arg3) = Cert.KernelIdeal.Hand.kws m c := by
  funext r k
  exact (congrFun (Cert.ReferenceIdeal.Gen.V_main_arg3 m' c) (ix2 r k)).trans
    ((congrFun h (ix2 r k)).trans (congrFun (Cert.KernelIdeal.Gen.V_main_arg3 m c) (ix2 r k)).symm)

variable (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))

include h0 h1 h2 h3

/-- The codes agree … -/
theorem codes_eq : (Cert.ReferenceIdeal.Hand.G4 m' c : Vec Ideal Cert.KernelIdeal.S6144x9472 .fp8e4m3) = Cert.KernelIdeal.Hand.G4 m c := by
  funext z
  have ez : z = ix2 (z 0 : Fin 6144) (z 1 : Fin 9472) := by
    funext a; apply Fin.ext; fin_cases a <;> rfl
  have e := Cert.ReferenceIdeal.Hand.G4_spec m' c (z 0 : Fin 6144) (z 1 : Fin 9472)
  rw [x_eq m m' c h0, xs_eq m m' c h1, w_eq m m' c h2, ws_eq m m' c h3] at e
  rw [ez]
  exact e.trans (Cert.KernelIdeal.Hand.G4_spec m c (z 0 : Fin 6144) (z 1 : Fin 9472)).symm

/-- … and the scales agree. -/
theorem scales_eq : (Cert.ReferenceIdeal.Hand.G5 m' c : Vec Ideal Cert.KernelIdeal.S6144x74 .f32) = Cert.KernelIdeal.Hand.G5 m c := by
  funext z
  have ez : z = ix2 (z 0 : Fin 6144) (z 1 : Fin 74) := by
    funext a; apply Fin.ext; fin_cases a <;> rfl
  have e := Cert.ReferenceIdeal.Hand.G5_spec m' c (z 0 : Fin 6144) (z 1 : Fin 74)
  rw [x_eq m m' c h0, xs_eq m m' c h1, w_eq m m' c h2, ws_eq m m' c h3] at e
  rw [ez]
  exact e.trans (Cert.KernelIdeal.Hand.G5_spec m c (z 0 : Fin 6144) (z 1 : Fin 74)).symm

end Arrays

/-- The value claim. -/
theorem algebraic : algebraic_KernelIdeal_ReferenceIdeal := by
  intro m g m' g' _ h
  refine ⟨fun c => Cert.KernelIdeal.Hand.G4 m c, fun c => Cert.KernelIdeal.Hand.G5 m c, Cert.KernelIdeal.Hand.run_values m g, ?_⟩
  refine (θ_run Cert.ReferenceIdeal.defs _ _).mono (fun r hr c => ?_) (Cert.ReferenceIdeal.Value.run_blocks m' g')
  obtain ⟨k4, k5, ka⟩ := hr c
  obtain ⟨h0, h1, h2, h3⟩ := h c
  exact ⟨(k4.trans (Cert.ReferenceIdeal.Hand.final4 m' c)).trans (codes_eq m m' c h0 h1 h2 h3),
    (k5.trans (Cert.ReferenceIdeal.Hand.final5 m' c)).trans (scales_eq m m' c h0 h1 h2 h3), ka⟩

end Cert.Proof

end
-- ==== Proof.Same.lean ====
/- The kernel as printed and the kernel printed for the extended reals are one program, so that the frame, proved of the second for floats
   of any kind, holds of the first. -/
module

public import proofs.«01_k».proof.Defs
public import proofs.«01_k».proof.Proof.Gen.Kernel
public import proofs.«01_k».proof.Proof.Track

@[expose] public section

noncomputable section

namespace Cert.Kernel.Hand

open Idealize.ShloMosaic Idealize.SL.Sem

variable {F : FTy → Type} [FloatOps F]

/-- The two body functions are the same program. -/
theorem fn_eq : cc0_gate_up_swiglu (F := F) = Cert.KernelIdeal.cc0_gate_up_swiglu (F := F) := rfl

/-- The two tables of kernel bodies are the same. -/
theorem defs₀_eq : defs₀ (F := F) = Cert.KernelIdeal.defs₀ (F := F) := by
  refine congrArg Defs.onTc (funext fun l => ?_)
  match l with
  | 0 => exact funext fun (t, s) => rfl
  | ⟨n + 1, h⟩ => exact absurd h (by omega)

/-- The two tables of bodies, regions and pipelines are the same. -/
theorem defs_eq : defs (F := F) = Cert.KernelIdeal.defs (F := F) := congrArg (Pipeline.defs pcfgs) defs₀_eq

/-- The two host programs are the same. -/
theorem main_eq : main (F := F) = Cert.KernelIdeal.main (F := F) := rfl

/-- THE FRAME of the kernel as printed: the argument arrays end unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.KernelIdeal.Hand.frame m ρ

end Cert.Kernel.Hand

end
-- ==== Proof.lean ====
/- The proof of the certificate: the three programs run to completion and leave their arguments as launched, and over the extended
   reals the kernel's two arrays are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Algebraic
public import proofs.«01_k».proof.Proof.Same
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  fun m ρ _ => Cert.Kernel.Hand.frame m ρ,
  fun m ρ _ => Cert.KernelIdeal.Hand.frame m ρ,
  fun m ρ _ => Cert.ReferenceIdeal.Gen.frame m ρ,
  trivial,
  algebraic⟩

end Cert.Proof

end
